-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S2x128x64x64 : Shape := ⟨4, ![2, 128, 64, 64]⟩
abbrev S2x64x64 : Shape := ⟨3, ![2, 64, 64]⟩
abbrev S2x50x120x2 : Shape := ⟨4, ![2, 50, 120, 2]⟩
abbrev S2x64x64x128 : Shape := ⟨4, ![2, 64, 64, 128]⟩
abbrev S2x4096x128 : Shape := ⟨3, ![2, 4096, 128]⟩
abbrev S_ : Shape := ⟨0, ![]⟩
abbrev S2x4096 : Shape := ⟨2, ![2, 4096]⟩
abbrev S2x4096x1 : Shape := ⟨3, ![2, 4096, 1]⟩
abbrev S2x128x4096 : Shape := ⟨3, ![2, 128, 4096]⟩
abbrev S2x4096x4096 : Shape := ⟨3, ![2, 4096, 4096]⟩
abbrev S2x4096x4 : Shape := ⟨3, ![2, 4096, 4]⟩

class Facts : Prop where
  transposes_S2x128x64x64_S2x64x64x128_0_2_3_1 : S2x128x64x64.Transposes [0, 2, 3, 1] S2x64x64x128
  shapeCasts_S2x64x64x128_S2x4096x128 : S2x64x64x128.ShapeCasts S2x4096x128
  reducesTo_S2x4096x128_S2x4096_d2 : S2x4096x128.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x128_0_1_2 : S2x4096x1.BroadcastsInDim S2x4096x128 (![0, 1, 2] : Fin 3 → Fin S2x4096x128.rank)
  transposes_S2x4096x128_S2x128x4096_0_2_1 : S2x4096x128.Transposes [0, 2, 1] S2x128x4096
  sliceFits_S2x4096x4096_S2x4096x4 : S2x4096x4096.Slices (fun _ => 0) S2x4096x4
  bcast_S_S2x128x64x64 : S_.BroadcastsInDim S2x128x64x64 (![] : Fin 0 → Fin S2x128x64x64.rank)
  reducesTo_S2x128x64x64_S_d0_1_2_3 : S2x128x64x64.ReducesTo [0, 1, 2, 3] S_
  slices_S2x4096x4_S2x4096x1_0_0_2 : S2x4096x4.Slices ![0, 0, 2] S2x4096x1
  shapeCasts_S2x4096x1_S2x4096 : S2x4096x1.ShapeCasts S2x4096
  slices_S2x4096x4_S2x4096x1_0_0_3 : S2x4096x4.Slices ![0, 0, 3] S2x4096x1
  reducesTo_S2x4096_S_d0_1 : S2x4096.ReducesTo [0, 1] S_
  dot_S2x4096x128_S2x128x4096_S2x4096x4096_2_1_1_2_0_0_wf : DotDims.WF S2x4096x128 S2x128x4096 S2x4096x4096 [2] [1] [1] [2] [0] [0]

variable [Facts]

def dot_S2x4096x128_S2x128x4096_S2x4096x4096_2_1_1_2_0_0 : DotDims S2x4096x128 S2x128x4096 S2x4096x4096 where
  lhsContracting := [2]
  rhsContracting := [1]
  lhsNonContracting := [1]
  rhsNonContracting := [2]
  lhsBatch := [0]
  rhsBatch := [0]
  wf := dot_S2x4096x128_S2x128x4096_S2x4096x4096_2_1_1_2_0_0_wf
def fn_norm {F : FTy → Type} [FloatOps F] (arg0 : FVec F S2x4096x128 .f32) : FVec F S2x4096x1 .f32 :=
  let v0 : FVec F S2x4096x128 .f32 := mulf arg0 arg0
  let cst : FVec F S_ .f32 := constant S_ .f32 0x00000000#32
  let v1 : FVec F S2x4096 .f32 := (fun x v => Host.reduceAdd x v reducesTo_S2x4096x128_S2x4096_d2 h_S_) v0 cst
  let v2 : FVec F S2x4096x1 .f32 := broadcastInDim S2x4096x1 ![0, 1] bcast_S2x4096_S2x4096x1_0_1 v1
  let v3 : FVec F S2x4096x1 .f32 := Host.sqrt v2
  v3

def fn_part1 {F : FTy → Type} [FloatOps F] (main_values : FVec F S2x4096x4 .f32) (main_v18 : IVec S2x128x64x64 1) : IVec S_ 1 :=
  let main_c : IVec S_ 1 := constantI S_ 1 1#1
  let main_v19 : IVec S_ 1 := (fun x v => Host.reduce IntOp.andi x v reducesTo_S2x128x64x64_S_d0_1_2_3 h_S_) main_v18 main_c
  let main_v20 : FVec F S2x4096x1 .f32 := (extractStridedSlice S2x4096x1 ![0, 0, 2] · slices_S2x4096x4_S2x4096x1_0_0_2) main_values
  let main_v21 : FVec F S2x4096 .f32 := shapeCast S2x4096 main_v20 shapeCasts_S2x4096x1_S2x4096
  let main_v22 : FVec F S2x4096x1 .f32 := (extractStridedSlice S2x4096x1 ![0, 0, 3] · slices_S2x4096x4_S2x4096x1_0_0_3) main_values
  let main_v23 : FVec F S2x4096 .f32 := shapeCast S2x4096 main_v22 shapeCasts_S2x4096x1_S2x4096
  let main_v24 : IVec S2x4096 1 := cmpf .ogt main_v21 main_v23
  let main_c_2 : IVec S_ 1 := constantI S_ 1 1#1
  let main_v25 : IVec S_ 1 := (fun x v => Host.reduce IntOp.andi x v reducesTo_S2x4096_S_d0_1 h_S_) main_v24 main_c_2
  let main_v26 : IVec S_ 1 := andi main_v19 main_v25
  main_v26

def fn {F : FTy → Type} [FloatOps F] (main_arg0 : FVec F S2x128x64x64 .f32) (main_arg1 : FVec F S2x128x64x64 .f32) (main_arg2 : FVec F S2x64x64 .f32) (main_arg3 : FVec F S2x64x64 .f32) (main_arg4 : IVec S2x64x64 32) (main_arg5 : FVec F S2x50x120x2 .f32) : IVec S_ 1 :=
  let main_v0 : FVec F S2x64x64x128 .f32 := (transpose S2x64x64x128 [0, 2, 3, 1] · transposes_S2x128x64x64_S2x64x64x128_0_2_3_1) main_arg0
  let main_v1 : FVec F S2x4096x128 .f32 := shapeCast S2x4096x128 main_v0 shapeCasts_S2x64x64x128_S2x4096x128
  let main_v2 : FVec F S2x64x64x128 .f32 := (transpose S2x64x64x128 [0, 2, 3, 1] · transposes_S2x128x64x64_S2x64x64x128_0_2_3_1) main_arg1
  let main_v3 : FVec F S2x4096x128 .f32 := shapeCast S2x4096x128 main_v2 shapeCasts_S2x64x64x128_S2x4096x128
  let main_v4 : FVec F S2x4096x1 .f32 := fn_norm (F := F) main_v1
  let main_cst : FVec F S_ .f32 := constant S_ .f32 0x2B8CBCCC#32
  let main_v5 : FVec F S2x4096x1 .f32 := broadcastInDim S2x4096x1 ![] bcast_S_S2x4096x1 main_cst
  let main_v6 : FVec F S2x4096x1 .f32 := addf main_v4 main_v5
  let main_v7 : FVec F S2x4096x128 .f32 := broadcastInDim S2x4096x128 ![0, 1, 2] bcast_S2x4096x1_S2x4096x128_0_1_2 main_v6
  let main_v8 : FVec F S2x4096x128 .f32 := Host.divf main_v1 main_v7
  let main_v9 : FVec F S2x4096x1 .f32 := fn_norm (F := F) main_v3
  let main_cst_0 : FVec F S_ .f32 := constant S_ .f32 0x2B8CBCCC#32
  let main_v10 : FVec F S2x4096x1 .f32 := broadcastInDim S2x4096x1 ![] bcast_S_S2x4096x1 main_cst_0
  let main_v11 : FVec F S2x4096x1 .f32 := addf main_v9 main_v10
  let main_v12 : FVec F S2x4096x128 .f32 := broadcastInDim S2x4096x128 ![0, 1, 2] bcast_S2x4096x1_S2x4096x128_0_1_2 main_v11
  let main_v13 : FVec F S2x4096x128 .f32 := Host.divf main_v3 main_v12
  let main_v14 : FVec F S2x128x4096 .f32 := (transpose S2x128x4096 [0, 2, 1] · transposes_S2x4096x128_S2x128x4096_0_2_1) main_v13
  let main_v15 : FVec F S2x4096x4096 .f32 := (fun l r => Host.dotGeneral dot_S2x4096x128_S2x128x4096_S2x4096x4096_2_1_1_2_0_0 none l r) main_v8 main_v14
  let main_values : FVec F S2x4096x4 .f32 := (fun x => (Host.topK S2x4096x4 2 (FloatOps.cmpfTotal .gt) x sliceFits_S2x4096x4096_S2x4096x4).1) main_v15
  let main_indices : IVec S2x4096x4 32 := (fun x => (Host.topK S2x4096x4 2 (FloatOps.cmpfTotal .gt) x sliceFits_S2x4096x4096_S2x4096x4).2) main_v15
  let main_v16 : FVec F S2x128x64x64 .f32 := Host.absf main_arg1
  let main_cst_1 : FVec F S_ .f32 := constant S_ .f32 0x7F800000#32
  let main_v17 : FVec F S2x128x64x64 .f32 := broadcastInDim S2x128x64x64 ![] bcast_S_S2x128x64x64 main_cst_1
  let main_v18 : IVec S2x128x64x64 1 := cmpf .olt main_v16 main_v17
  fn_part1 (F := F) main_values main_v18
-- ==== Kernel.lean ====
abbrev S2x128x64x64 : Shape := ⟨4, ![2, 128, 64, 64]⟩
abbrev S2x64x64 : Shape := ⟨3, ![2, 64, 64]⟩
abbrev S2x50x120x2 : Shape := ⟨4, ![2, 50, 120, 2]⟩
abbrev S2x128x4096 : Shape := ⟨3, ![2, 128, 4096]⟩
abbrev S2x4096x2 : Shape := ⟨3, ![2, 4096, 2]⟩
abbrev S1x128x2048 : Shape := ⟨3, ![1, 128, 2048]⟩
abbrev S1x128x4096 : Shape := ⟨3, ![1, 128, 4096]⟩
abbrev S1x2048x2 : Shape := ⟨3, ![1, 2048, 2]⟩
abbrev S128x2048 : Shape := ⟨2, ![128, 2048]⟩
abbrev S128x4096 : Shape := ⟨2, ![128, 4096]⟩
abbrev S64x2048 : Shape := ⟨2, ![64, 2048]⟩
abbrev S32x2048 : Shape := ⟨2, ![32, 2048]⟩
abbrev S16x2048 : Shape := ⟨2, ![16, 2048]⟩
abbrev S8x2048 : Shape := ⟨2, ![8, 2048]⟩
abbrev S4x2048 : Shape := ⟨2, ![4, 2048]⟩
abbrev S2x2048 : Shape := ⟨2, ![2, 2048]⟩
abbrev S1x2048 : Shape := ⟨2, ![1, 2048]⟩
abbrev S64x4096 : Shape := ⟨2, ![64, 4096]⟩
abbrev S32x4096 : Shape := ⟨2, ![32, 4096]⟩
abbrev S16x4096 : Shape := ⟨2, ![16, 4096]⟩
abbrev S8x4096 : Shape := ⟨2, ![8, 4096]⟩
abbrev S4x4096 : Shape := ⟨2, ![4, 4096]⟩
abbrev S2x4096 : Shape := ⟨2, ![2, 4096]⟩
abbrev S1x4096 : Shape := ⟨2, ![1, 4096]⟩
abbrev S2048x4096 : Shape := ⟨2, ![2048, 4096]⟩
abbrev S2048x128 : Shape := ⟨2, ![2048, 128]⟩
abbrev S2048x64 : Shape := ⟨2, ![2048, 64]⟩
abbrev S2048x32 : Shape := ⟨2, ![2048, 32]⟩
abbrev S2048x16 : Shape := ⟨2, ![2048, 16]⟩
abbrev S2048x8 : Shape := ⟨2, ![2048, 8]⟩
abbrev S2048x4 : Shape := ⟨2, ![2048, 4]⟩
abbrev S2048x2 : Shape := ⟨2, ![2048, 2]⟩
abbrev S2048x1 : Shape := ⟨2, ![2048, 1]⟩
abbrev S3x4096 : Shape := ⟨2, ![3, 4096]⟩
abbrev S2048x3 : Shape := ⟨2, ![2048, 3]⟩
abbrev S2x64x64x2 : Shape := ⟨4, ![2, 64, 64, 2]⟩
abbrev S_ : Shape := ⟨0, ![]⟩
abbrev S2 : Shape := ⟨1, ![2]⟩
abbrev S2x1x1 : Shape := ⟨3, ![2, 1, 1]⟩
abbrev S2x50x120x1 : Shape := ⟨4, ![2, 50, 120, 1]⟩
abbrev S2x50x120 : Shape := ⟨3, ![2, 50, 120]⟩
abbrev S12000 : Shape := ⟨1, ![12000]⟩
abbrev S12288 : Shape := ⟨1, ![12288]⟩
abbrev S16384 : Shape := ⟨1, ![16384]⟩
abbrev S24576 : Shape := ⟨1, ![24576]⟩
abbrev S384 : Shape := ⟨1, ![384]⟩
abbrev S768 : Shape := ⟨1, ![768]⟩
abbrev S16 : Shape := ⟨1, ![16]⟩
abbrev S24000 : Shape := ⟨1, ![24000]⟩

abbrev nBuf : Table → Nat
  | .hbm => 49
  | .local .tc .vmem => 6
  | .local .scVector .vmem => 3
  | _ => 0

abbrev bufTy : (tb : Table) → Fin (nBuf tb) → BufTy
  | .hbm, ⟨0, _⟩ => ⟨S2x128x64x64, .f32⟩
  | .hbm, ⟨1, _⟩ => ⟨S2x128x64x64, .f32⟩
  | .hbm, ⟨2, _⟩ => ⟨S2x64x64, .f32⟩
  | .hbm, ⟨3, _⟩ => ⟨S2x64x64, .f32⟩
  | .hbm, ⟨4, _⟩ => ⟨S2x64x64, .i32⟩
  | .hbm, ⟨5, _⟩ => ⟨S2x50x120x2, .f32⟩
  | .hbm, ⟨6, _⟩ => ⟨S2x128x4096, .f32⟩
  | .hbm, ⟨7, _⟩ => ⟨S2x128x4096, .f32⟩
  | .hbm, ⟨8, _⟩ => ⟨S2x4096x2, .f32⟩
  | .hbm, ⟨9, _⟩ => ⟨S2x64x64x2, .f32⟩
  | .hbm, ⟨10, _⟩ => ⟨S_, .f32⟩
  | .hbm, ⟨11, _⟩ => ⟨S2x50x120x2, .f32⟩
  | .hbm, ⟨12, _⟩ => ⟨S2x50x120x2, .f32⟩
  | .hbm, ⟨13, _⟩ => ⟨S2x50x120x2, .f32⟩
  | .hbm, ⟨14, _⟩ => ⟨S2x50x120x2, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S2x50x120x2, .i32⟩
  | .hbm, ⟨19, _⟩ => ⟨S2x50x120x2, .i32⟩
  | .hbm, ⟨20, _⟩ => ⟨S_, .i32⟩
  | .hbm, ⟨21, _⟩ => ⟨S2x50x120x2, .i32⟩
  | .hbm, ⟨22, _⟩ => ⟨S2x50x120x2, .i32⟩
  | .hbm, ⟨23, _⟩ => ⟨S2, .i32⟩
  | .hbm, ⟨24, _⟩ => ⟨S2x1x1, .i32⟩
  | .hbm, ⟨25, _⟩ => ⟨S_, .i32⟩
  | .hbm, ⟨26, _⟩ => ⟨S2x1x1, .i32⟩
  | .hbm, ⟨27, _⟩ => ⟨S2x1x1, .i32⟩
  | .hbm, ⟨28, _⟩ => ⟨S2x50x120x1, .i32⟩
  | .hbm, ⟨29, _⟩ => ⟨S2x50x120, .i32⟩
  | .hbm, ⟨30, _⟩ => ⟨S_, .i32⟩
  | .hbm, ⟨31, _⟩ => ⟨S2x50x120, .i32⟩
  | .hbm, ⟨32, _⟩ => ⟨S2x50x120, .i32⟩
  | .hbm, ⟨33, _⟩ => ⟨S2x50x120, .i32⟩
  | .hbm, ⟨34, _⟩ => ⟨S2x50x120, .i32⟩
  | .hbm, ⟨35, _⟩ => ⟨S2x50x120x1, .i32⟩
  | .hbm, ⟨36, _⟩ => ⟨S2x50x120, .i32⟩
  | .hbm, ⟨37, _⟩ => ⟨S2x50x120, .i32⟩
  | .hbm, ⟨38, _⟩ => ⟨S_, .i32⟩
  | .hbm, ⟨39, _⟩ => ⟨S2x50x120, .i32⟩
  | .hbm, ⟨40, _⟩ => ⟨S2x50x120, .i32⟩
  | .hbm, ⟨41, _⟩ => ⟨S12000, .i32⟩
  | .hbm, ⟨42, _⟩ => ⟨S_, .i32⟩
  | .hbm, ⟨43, _⟩ => ⟨S_, .i32⟩
  | .hbm, ⟨44, _⟩ => ⟨S12288, .i32⟩
  | .hbm, ⟨45, _⟩ => ⟨S16384, .f32⟩
  | .hbm, ⟨46, _⟩ => ⟨S24576, .f32⟩
  | .hbm, ⟨47, _⟩ => ⟨S24000, .f32⟩
  | .hbm, ⟨48, _⟩ => ⟨S2x50x120x2, .f32⟩
  | .local .tc .vmem, ⟨0, _⟩ => ⟨S1x128x2048, .f32⟩
  | .local .tc .vmem, ⟨1, _⟩ => ⟨S1x128x2048, .f32⟩
  | .local .tc .vmem, ⟨2, _⟩ => ⟨S1x128x4096, .f32⟩
  | .local .tc .vmem, ⟨3, _⟩ => ⟨S1x128x4096, .f32⟩
  | .local .tc .vmem, ⟨4, _⟩ => ⟨S1x2048x2, .f32⟩
  | .local .tc .vmem, ⟨5, _⟩ => ⟨S1x2048x2, .f32⟩
  | .local .scVector .vmem, ⟨0, _⟩ => ⟨S16384, .f32⟩
  | .local .scVector .vmem, ⟨1, _⟩ => ⟨S384, .i32⟩
  | .local .scVector .vmem, ⟨2, _⟩ => ⟨S768, .f32⟩
  | _, _ => ⟨S2x128x64x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_c_0 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_call2_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v26_scv : Ref sig .scVector := ⟨.hbm, 45, rfl⟩
abbrev main_v25_scv : Ref sig .scVector := ⟨.hbm, 44, rfl⟩
abbrev main_v27_scv : Ref sig .scVector := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v2 : BitVec 32 := Scalar.muli v1 c384_i32
  ![v2.toNat]

def k1_chk1 (v4 : IVec S16 32) : Prop :=
  (∀ a x, ((![v4] : Fin 1 → IVec S16 32) a x).toNat < S16384.size a)
theorem k1_idx1_inb : ∀ (v4 : IVec S16 32) (k1_hw1 : k1_chk1 v4), ∀ a x, ((![v4] : Fin 1 → IVec S16 32) a x).toNat < S16384.size a := fun v4 k1_hw1 => k1_hw1

def k1_chk2 (v7 : IVec S16 32) : Prop :=
  (∀ a x, ((![v7] : Fin 1 → IVec S16 32) a x).toNat < S16384.size a)
theorem k1_idx2_inb : ∀ (v7 : IVec S16 32) (k1_hw2 : k1_chk2 v7), ∀ a x, ((![v7] : Fin 1 → IVec S16 32) a x).toNat < S16384.size a := fun v7 k1_hw2 => k1_hw2

def k1_chk3 (v12 : IVec S16 32) : Prop :=
  (∀ a x, ((![v12] : Fin 1 → IVec S16 32) a x).toNat < S768.size a)
theorem k1_idx3_inb : ∀ (v12 : IVec S16 32) (k1_hw3 : k1_chk3 v12), ∀ a x, ((![v12] : Fin 1 → IVec S16 32) a x).toNat < S768.size a := fun v12 k1_hw3 => k1_hw3

def k1_chk4 (v16 : IVec S16 32) : Prop :=
  (∀ a x, ((![v16] : Fin 1 → IVec S16 32) a x).toNat < S768.size a)
theorem k1_idx4_inb : ∀ (v16 : IVec S16 32) (k1_hw4 : k1_chk4 v16), ∀ a x, ((![v16] : Fin 1 → IVec S16 32) a x).toNat < S768.size a := fun v16 k1_hw4 => k1_hw4

def k1_chk5 (v19 : IVec S16 32) : Prop :=
  (∀ a x, ((![v19] : Fin 1 → IVec S16 32) a x).toNat < S16384.size a)
theorem k1_idx5_inb : ∀ (v19 : IVec S16 32) (k1_hw5 : k1_chk5 v19), ∀ a x, ((![v19] : Fin 1 → IVec S16 32) a x).toNat < S16384.size a := fun v19 k1_hw5 => k1_hw5

def k1_chk6 (v22 : IVec S16 32) : Prop :=
  (∀ a x, ((![v22] : Fin 1 → IVec S16 32) a x).toNat < S16384.size a)
theorem k1_idx6_inb : ∀ (v22 : IVec S16 32) (k1_hw6 : k1_chk6 v22), ∀ a x, ((![v22] : Fin 1 → IVec S16 32) a x).toNat < S16384.size a := fun v22 k1_hw6 => k1_hw6

def k1_chk7 (v27 : IVec S16 32) : Prop :=
  (∀ a x, ((![v27] : Fin 1 → IVec S16 32) a x).toNat < S768.size a)
theorem k1_idx7_inb : ∀ (v27 : IVec S16 32) (k1_hw7 : k1_chk7 v27), ∀ a x, ((![v27] : Fin 1 → IVec S16 32) a x).toNat < S768.size a := fun v27 k1_hw7 => k1_hw7

def k1_chk8 (v31 : IVec S16 32) : Prop :=
  (∀ a x, ((![v31] : Fin 1 → IVec S16 32) a x).toNat < S768.size a)
theorem k1_idx8_inb : ∀ (v31 : IVec S16 32) (k1_hw8 : k1_chk8 v31), ∀ a x, ((![v31] : Fin 1 → IVec S16 32) a x).toNat < S768.size a := fun v31 k1_hw8 => k1_hw8

def k1_chk9 (v34 : IVec S16 32) : Prop :=
  (∀ a x, ((![v34] : Fin 1 → IVec S16 32) a x).toNat < S16384.size a)
theorem k1_idx9_inb : ∀ (v34 : IVec S16 32) (k1_hw9 : k1_chk9 v34), ∀ a x, ((![v34] : Fin 1 → IVec S16 32) a x).toNat < S16384.size a := fun v34 k1_hw9 => k1_hw9

def k1_chk10 (v37 : IVec S16 32) : Prop :=
  (∀ a x, ((![v37] : Fin 1 → IVec S16 32) a x).toNat < S16384.size a)
theorem k1_idx10_inb : ∀ (v37 : IVec S16 32) (k1_hw10 : k1_chk10 v37), ∀ a x, ((![v37] : Fin 1 → IVec S16 32) a x).toNat < S16384.size a := fun v37 k1_hw10 => k1_hw10

def k1_chk11 (v42 : IVec S16 32) : Prop :=
  (∀ a x, ((![v42] : Fin 1 → IVec S16 32) a x).toNat < S768.size a)
theorem k1_idx11_inb : ∀ (v42 : IVec S16 32) (k1_hw11 : k1_chk11 v42), ∀ a x, ((![v42] : Fin 1 → IVec S16 32) a x).toNat < S768.size a := fun v42 k1_hw11 => k1_hw11

def k1_chk12 (v46 : IVec S16 32) : Prop :=
  (∀ a x, ((![v46] : Fin 1 → IVec S16 32) a x).toNat < S768.size a)
theorem k1_idx12_inb : ∀ (v46 : IVec S16 32) (k1_hw12 : k1_chk12 v46), ∀ a x, ((![v46] : Fin 1 → IVec S16 32) a x).toNat < S768.size a := fun v46 k1_hw12 => k1_hw12

def k1_chk13 (v49 : IVec S16 32) : Prop :=
  (∀ a x, ((![v49] : Fin 1 → IVec S16 32) a x).toNat < S16384.size a)
theorem k1_idx13_inb : ∀ (v49 : IVec S16 32) (k1_hw13 : k1_chk13 v49), ∀ a x, ((![v49] : Fin 1 → IVec S16 32) a x).toNat < S16384.size a := fun v49 k1_hw13 => k1_hw13

def k1_chk14 (v52 : IVec S16 32) : Prop :=
  (∀ a x, ((![v52] : Fin 1 → IVec S16 32) a x).toNat < S16384.size a)
theorem k1_idx14_inb : ∀ (v52 : IVec S16 32) (k1_hw14 : k1_chk14 v52), ∀ a x, ((![v52] : Fin 1 → IVec S16 32) a x).toNat < S16384.size a := fun v52 k1_hw14 => k1_hw14

def k1_chk15 (v57 : IVec S16 32) : Prop :=
  (∀ a x, ((![v57] : Fin 1 → IVec S16 32) a x).toNat < S768.size a)
theorem k1_idx15_inb : ∀ (v57 : IVec S16 32) (k1_hw15 : k1_chk15 v57), ∀ a x, ((![v57] : Fin 1 → IVec S16 32) a x).toNat < S768.size a := fun v57 k1_hw15 => k1_hw15

def k1_chk16 (v61 : IVec S16 32) : Prop :=
  (∀ a x, ((![v61] : Fin 1 → IVec S16 32) a x).toNat < S768.size a)
theorem k1_idx16_inb : ∀ (v61 : IVec S16 32) (k1_hw16 : k1_chk16 v61), ∀ a x, ((![v61] : Fin 1 → IVec S16 32) a x).toNat < S768.size a := fun v61 k1_hw16 => k1_hw16

def k1_chk17 (v64 : IVec S16 32) : Prop :=
  (∀ a x, ((![v64] : Fin 1 → IVec S16 32) a x).toNat < S16384.size a)
theorem k1_idx17_inb : ∀ (v64 : IVec S16 32) (k1_hw17 : k1_chk17 v64), ∀ a x, ((![v64] : Fin 1 → IVec S16 32) a x).toNat < S16384.size a := fun v64 k1_hw17 => k1_hw17

def k1_chk18 (v67 : IVec S16 32) : Prop :=
  (∀ a x, ((![v67] : Fin 1 → IVec S16 32) a x).toNat < S16384.size a)
theorem k1_idx18_inb : ∀ (v67 : IVec S16 32) (k1_hw18 : k1_chk18 v67), ∀ a x, ((![v67] : Fin 1 → IVec S16 32) a x).toNat < S16384.size a := fun v67 k1_hw18 => k1_hw18

def k1_chk19 (v72 : IVec S16 32) : Prop :=
  (∀ a x, ((![v72] : Fin 1 → IVec S16 32) a x).toNat < S768.size a)
theorem k1_idx19_inb : ∀ (v72 : IVec S16 32) (k1_hw19 : k1_chk19 v72), ∀ a x, ((![v72] : Fin 1 → IVec S16 32) a x).toNat < S768.size a := fun v72 k1_hw19 => k1_hw19

def k1_chk20 (v76 : IVec S16 32) : Prop :=
  (∀ a x, ((![v76] : Fin 1 → IVec S16 32) a x).toNat < S768.size a)
theorem k1_idx20_inb : ∀ (v76 : IVec S16 32) (k1_hw20 : k1_chk20 v76), ∀ a x, ((![v76] : Fin 1 → IVec S16 32) a x).toNat < S768.size a := fun v76 k1_hw20 => k1_hw20

def k1_chk21 (v79 : IVec S16 32) : Prop :=
  (∀ a x, ((![v79] : Fin 1 → IVec S16 32) a x).toNat < S16384.size a)
theorem k1_idx21_inb : ∀ (v79 : IVec S16 32) (k1_hw21 : k1_chk21 v79), ∀ a x, ((![v79] : Fin 1 → IVec S16 32) a x).toNat < S16384.size a := fun v79 k1_hw21 => k1_hw21

def k1_chk22 (v82 : IVec S16 32) : Prop :=
  (∀ a x, ((![v82] : Fin 1 → IVec S16 32) a x).toNat < S16384.size a)
theorem k1_idx22_inb : ∀ (v82 : IVec S16 32) (k1_hw22 : k1_chk22 v82), ∀ a x, ((![v82] : Fin 1 → IVec S16 32) a x).toNat < S16384.size a := fun v82 k1_hw22 => k1_hw22

def k1_chk23 (v87 : IVec S16 32) : Prop :=
  (∀ a x, ((![v87] : Fin 1 → IVec S16 32) a x).toNat < S768.size a)
theorem k1_idx23_inb : ∀ (v87 : IVec S16 32) (k1_hw23 : k1_chk23 v87), ∀ a x, ((![v87] : Fin 1 → IVec S16 32) a x).toNat < S768.size a := fun v87 k1_hw23 => k1_hw23

def k1_chk24 (v91 : IVec S16 32) : Prop :=
  (∀ a x, ((![v91] : Fin 1 → IVec S16 32) a x).toNat < S768.size a)
theorem k1_idx24_inb : ∀ (v91 : IVec S16 32) (k1_hw24 : k1_chk24 v91), ∀ a x, ((![v91] : Fin 1 → IVec S16 32) a x).toNat < S768.size a := fun v91 k1_hw24 => k1_hw24

def k1_chk25 (v94 : IVec S16 32) : Prop :=
  (∀ a x, ((![v94] : Fin 1 → IVec S16 32) a x).toNat < S16384.size a)
theorem k1_idx25_inb : ∀ (v94 : IVec S16 32) (k1_hw25 : k1_chk25 v94), ∀ a x, ((![v94] : Fin 1 → IVec S16 32) a x).toNat < S16384.size a := fun v94 k1_hw25 => k1_hw25

def k1_chk26 (v97 : IVec S16 32) : Prop :=
  (∀ a x, ((![v97] : Fin 1 → IVec S16 32) a x).toNat < S16384.size a)
theorem k1_idx26_inb : ∀ (v97 : IVec S16 32) (k1_hw26 : k1_chk26 v97), ∀ a x, ((![v97] : Fin 1 → IVec S16 32) a x).toNat < S16384.size a := fun v97 k1_hw26 => k1_hw26

def k1_chk27 (v102 : IVec S16 32) : Prop :=
  (∀ a x, ((![v102] : Fin 1 → IVec S16 32) a x).toNat < S768.size a)
theorem k1_idx27_inb : ∀ (v102 : IVec S16 32) (k1_hw27 : k1_chk27 v102), ∀ a x, ((![v102] : Fin 1 → IVec S16 32) a x).toNat < S768.size a := fun v102 k1_hw27 => k1_hw27

def k1_chk28 (v106 : IVec S16 32) : Prop :=
  (∀ a x, ((![v106] : Fin 1 → IVec S16 32) a x).toNat < S768.size a)
theorem k1_idx28_inb : ∀ (v106 : IVec S16 32) (k1_hw28 : k1_chk28 v106), ∀ a x, ((![v106] : Fin 1 → IVec S16 32) a x).toNat < S768.size a := fun v106 k1_hw28 => k1_hw28

def k1_chk29 (v109 : IVec S16 32) : Prop :=
  (∀ a x, ((![v109] : Fin 1 → IVec S16 32) a x).toNat < S16384.size a)
theorem k1_idx29_inb : ∀ (v109 : IVec S16 32) (k1_hw29 : k1_chk29 v109), ∀ a x, ((![v109] : Fin 1 → IVec S16 32) a x).toNat < S16384.size a := fun v109 k1_hw29 => k1_hw29

def k1_chk30 (v112 : IVec S16 32) : Prop :=
  (∀ a x, ((![v112] : Fin 1 → IVec S16 32) a x).toNat < S16384.size a)
theorem k1_idx30_inb : ∀ (v112 : IVec S16 32) (k1_hw30 : k1_chk30 v112), ∀ a x, ((![v112] : Fin 1 → IVec S16 32) a x).toNat < S16384.size a := fun v112 k1_hw30 => k1_hw30

def k1_chk31 (v117 : IVec S16 32) : Prop :=
  (∀ a x, ((![v117] : Fin 1 → IVec S16 32) a x).toNat < S768.size a)
theorem k1_idx31_inb : ∀ (v117 : IVec S16 32) (k1_hw31 : k1_chk31 v117), ∀ a x, ((![v117] : Fin 1 → IVec S16 32) a x).toNat < S768.size a := fun v117 k1_hw31 => k1_hw31

def k1_chk32 (v121 : IVec S16 32) : Prop :=
  (∀ a x, ((![v121] : Fin 1 → IVec S16 32) a x).toNat < S768.size a)
theorem k1_idx32_inb : ∀ (v121 : IVec S16 32) (k1_hw32 : k1_chk32 v121), ∀ a x, ((![v121] : Fin 1 → IVec S16 32) a x).toNat < S768.size a := fun v121 k1_hw32 => k1_hw32

def k1_chk33 (v124 : IVec S16 32) : Prop :=
  (∀ a x, ((![v124] : Fin 1 → IVec S16 32) a x).toNat < S16384.size a)
theorem k1_idx33_inb : ∀ (v124 : IVec S16 32) (k1_hw33 : k1_chk33 v124), ∀ a x, ((![v124] : Fin 1 → IVec S16 32) a x).toNat < S16384.size a := fun v124 k1_hw33 => k1_hw33

def k1_chk34 (v127 : IVec S16 32) : Prop :=
  (∀ a x, ((![v127] : Fin 1 → IVec S16 32) a x).toNat < S16384.size a)
theorem k1_idx34_inb : ∀ (v127 : IVec S16 32) (k1_hw34 : k1_chk34 v127), ∀ a x, ((![v127] : Fin 1 → IVec S16 32) a x).toNat < S16384.size a := fun v127 k1_hw34 => k1_hw34

def k1_chk35 (v132 : IVec S16 32) : Prop :=
  (∀ a x, ((![v132] : Fin 1 → IVec S16 32) a x).toNat < S768.size a)
theorem k1_idx35_inb : ∀ (v132 : IVec S16 32) (k1_hw35 : k1_chk35 v132), ∀ a x, ((![v132] : Fin 1 → IVec S16 32) a x).toNat < S768.size a := fun v132 k1_hw35 => k1_hw35

def k1_chk36 (v136 : IVec S16 32) : Prop :=
  (∀ a x, ((![v136] : Fin 1 → IVec S16 32) a x).toNat < S768.size a)
theorem k1_idx36_inb : ∀ (v136 : IVec S16 32) (k1_hw36 : k1_chk36 v136), ∀ a x, ((![v136] : Fin 1 → IVec S16 32) a x).toNat < S768.size a := fun v136 k1_hw36 => k1_hw36

def k1_chk37 (v139 : IVec S16 32) : Prop :=
  (∀ a x, ((![v139] : Fin 1 → IVec S16 32) a x).toNat < S16384.size a)
theorem k1_idx37_inb : ∀ (v139 : IVec S16 32) (k1_hw37 : k1_chk37 v139), ∀ a x, ((![v139] : Fin 1 → IVec S16 32) a x).toNat < S16384.size a := fun v139 k1_hw37 => k1_hw37

def k1_chk38 (v142 : IVec S16 32) : Prop :=
  (∀ a x, ((![v142] : Fin 1 → IVec S16 32) a x).toNat < S16384.size a)
theorem k1_idx38_inb : ∀ (v142 : IVec S16 32) (k1_hw38 : k1_chk38 v142), ∀ a x, ((![v142] : Fin 1 → IVec S16 32) a x).toNat < S16384.size a := fun v142 k1_hw38 => k1_hw38

def k1_chk39 (v147 : IVec S16 32) : Prop :=
  (∀ a x, ((![v147] : Fin 1 → IVec S16 32) a x).toNat < S768.size a)
theorem k1_idx39_inb : ∀ (v147 : IVec S16 32) (k1_hw39 : k1_chk39 v147), ∀ a x, ((![v147] : Fin 1 → IVec S16 32) a x).toNat < S768.size a := fun v147 k1_hw39 => k1_hw39

def k1_chk40 (v151 : IVec S16 32) : Prop :=
  (∀ a x, ((![v151] : Fin 1 → IVec S16 32) a x).toNat < S768.size a)
theorem k1_idx40_inb : ∀ (v151 : IVec S16 32) (k1_hw40 : k1_chk40 v151), ∀ a x, ((![v151] : Fin 1 → IVec S16 32) a x).toNat < S768.size a := fun v151 k1_hw40 => k1_hw40

def k1_chk41 (v154 : IVec S16 32) : Prop :=
  (∀ a x, ((![v154] : Fin 1 → IVec S16 32) a x).toNat < S16384.size a)
theorem k1_idx41_inb : ∀ (v154 : IVec S16 32) (k1_hw41 : k1_chk41 v154), ∀ a x, ((![v154] : Fin 1 → IVec S16 32) a x).toNat < S16384.size a := fun v154 k1_hw41 => k1_hw41

def k1_chk42 (v157 : IVec S16 32) : Prop :=
  (∀ a x, ((![v157] : Fin 1 → IVec S16 32) a x).toNat < S16384.size a)
theorem k1_idx42_inb : ∀ (v157 : IVec S16 32) (k1_hw42 : k1_chk42 v157), ∀ a x, ((![v157] : Fin 1 → IVec S16 32) a x).toNat < S16384.size a := fun v157 k1_hw42 => k1_hw42

def k1_chk43 (v162 : IVec S16 32) : Prop :=
  (∀ a x, ((![v162] : Fin 1 → IVec S16 32) a x).toNat < S768.size a)
theorem k1_idx43_inb : ∀ (v162 : IVec S16 32) (k1_hw43 : k1_chk43 v162), ∀ a x, ((![v162] : Fin 1 → IVec S16 32) a x).toNat < S768.size a := fun v162 k1_hw43 => k1_hw43

def k1_chk44 (v166 : IVec S16 32) : Prop :=
  (∀ a x, ((![v166] : Fin 1 → IVec S16 32) a x).toNat < S768.size a)
theorem k1_idx44_inb : ∀ (v166 : IVec S16 32) (k1_hw44 : k1_chk44 v166), ∀ a x, ((![v166] : Fin 1 → IVec S16 32) a x).toNat < S768.size a := fun v166 k1_hw44 => k1_hw44

def k1_chk45 (v169 : IVec S16 32) : Prop :=
  (∀ a x, ((![v169] : Fin 1 → IVec S16 32) a x).toNat < S16384.size a)
theorem k1_idx45_inb : ∀ (v169 : IVec S16 32) (k1_hw45 : k1_chk45 v169), ∀ a x, ((![v169] : Fin 1 → IVec S16 32) a x).toNat < S16384.size a := fun v169 k1_hw45 => k1_hw45

def k1_chk46 (v172 : IVec S16 32) : Prop :=
  (∀ a x, ((![v172] : Fin 1 → IVec S16 32) a x).toNat < S16384.size a)
theorem k1_idx46_inb : ∀ (v172 : IVec S16 32) (k1_hw46 : k1_chk46 v172), ∀ a x, ((![v172] : Fin 1 → IVec S16 32) a x).toNat < S16384.size a := fun v172 k1_hw46 => k1_hw46

def k1_chk47 (v177 : IVec S16 32) : Prop :=
  (∀ a x, ((![v177] : Fin 1 → IVec S16 32) a x).toNat < S768.size a)
theorem k1_idx47_inb : ∀ (v177 : IVec S16 32) (k1_hw47 : k1_chk47 v177), ∀ a x, ((![v177] : Fin 1 → IVec S16 32) a x).toNat < S768.size a := fun v177 k1_hw47 => k1_hw47

def k1_chk48 (v181 : IVec S16 32) : Prop :=
  (∀ a x, ((![v181] : Fin 1 → IVec S16 32) a x).toNat < S768.size a)
theorem k1_idx48_inb : ∀ (v181 : IVec S16 32) (k1_hw48 : k1_chk48 v181), ∀ a x, ((![v181] : Fin 1 → IVec S16 32) a x).toNat < S768.size a := fun v181 k1_hw48 => k1_hw48

def k1_chk49 (v184 : IVec S16 32) : Prop :=
  (∀ a x, ((![v184] : Fin 1 → IVec S16 32) a x).toNat < S16384.size a)
theorem k1_idx49_inb : ∀ (v184 : IVec S16 32) (k1_hw49 : k1_chk49 v184), ∀ a x, ((![v184] : Fin 1 → IVec S16 32) a x).toNat < S16384.size a := fun v184 k1_hw49 => k1_hw49

def k1_chk50 (v187 : IVec S16 32) : Prop :=
  (∀ a x, ((![v187] : Fin 1 → IVec S16 32) a x).toNat < S16384.size a)
theorem k1_idx50_inb : ∀ (v187 : IVec S16 32) (k1_hw50 : k1_chk50 v187), ∀ a x, ((![v187] : Fin 1 → IVec S16 32) a x).toNat < S16384.size a := fun v187 k1_hw50 => k1_hw50

def k1_chk51 (v192 : IVec S16 32) : Prop :=
  (∀ a x, ((![v192] : Fin 1 → IVec S16 32) a x).toNat < S768.size a)
theorem k1_idx51_inb : ∀ (v192 : IVec S16 32) (k1_hw51 : k1_chk51 v192), ∀ a x, ((![v192] : Fin 1 → IVec S16 32) a x).toNat < S768.size a := fun v192 k1_hw51 => k1_hw51

def k1_chk52 (v196 : IVec S16 32) : Prop :=
  (∀ a x, ((![v196] : Fin 1 → IVec S16 32) a x).toNat < S768.size a)
theorem k1_idx52_inb : ∀ (v196 : IVec S16 32) (k1_hw52 : k1_chk52 v196), ∀ a x, ((![v196] : Fin 1 → IVec S16 32) a x).toNat < S768.size a := fun v196 k1_hw52 => k1_hw52

def k1_chk53 (v199 : IVec S16 32) : Prop :=
  (∀ a x, ((![v199] : Fin 1 → IVec S16 32) a x).toNat < S16384.size a)
theorem k1_idx53_inb : ∀ (v199 : IVec S16 32) (k1_hw53 : k1_chk53 v199), ∀ a x, ((![v199] : Fin 1 → IVec S16 32) a x).toNat < S16384.size a := fun v199 k1_hw53 => k1_hw53

def k1_chk54 (v202 : IVec S16 32) : Prop :=
  (∀ a x, ((![v202] : Fin 1 → IVec S16 32) a x).toNat < S16384.size a)
theorem k1_idx54_inb : ∀ (v202 : IVec S16 32) (k1_hw54 : k1_chk54 v202), ∀ a x, ((![v202] : Fin 1 → IVec S16 32) a x).toNat < S16384.size a := fun v202 k1_hw54 => k1_hw54

def k1_chk55 (v207 : IVec S16 32) : Prop :=
  (∀ a x, ((![v207] : Fin 1 → IVec S16 32) a x).toNat < S768.size a)
theorem k1_idx55_inb : ∀ (v207 : IVec S16 32) (k1_hw55 : k1_chk55 v207), ∀ a x, ((![v207] : Fin 1 → IVec S16 32) a x).toNat < S768.size a := fun v207 k1_hw55 => k1_hw55

def k1_chk56 (v211 : IVec S16 32) : Prop :=
  (∀ a x, ((![v211] : Fin 1 → IVec S16 32) a x).toNat < S768.size a)
theorem k1_idx56_inb : ∀ (v211 : IVec S16 32) (k1_hw56 : k1_chk56 v211), ∀ a x, ((![v211] : Fin 1 → IVec S16 32) a x).toNat < S768.size a := fun v211 k1_hw56 => k1_hw56

def k1_chk57 (v214 : IVec S16 32) : Prop :=
  (∀ a x, ((![v214] : Fin 1 → IVec S16 32) a x).toNat < S16384.size a)
theorem k1_idx57_inb : ∀ (v214 : IVec S16 32) (k1_hw57 : k1_chk57 v214), ∀ a x, ((![v214] : Fin 1 → IVec S16 32) a x).toNat < S16384.size a := fun v214 k1_hw57 => k1_hw57

def k1_chk58 (v217 : IVec S16 32) : Prop :=
  (∀ a x, ((![v217] : Fin 1 → IVec S16 32) a x).toNat < S16384.size a)
theorem k1_idx58_inb : ∀ (v217 : IVec S16 32) (k1_hw58 : k1_chk58 v217), ∀ a x, ((![v217] : Fin 1 → IVec S16 32) a x).toNat < S16384.size a := fun v217 k1_hw58 => k1_hw58

def k1_chk59 (v222 : IVec S16 32) : Prop :=
  (∀ a x, ((![v222] : Fin 1 → IVec S16 32) a x).toNat < S768.size a)
theorem k1_idx59_inb : ∀ (v222 : IVec S16 32) (k1_hw59 : k1_chk59 v222), ∀ a x, ((![v222] : Fin 1 → IVec S16 32) a x).toNat < S768.size a := fun v222 k1_hw59 => k1_hw59

def k1_chk60 (v226 : IVec S16 32) : Prop :=
  (∀ a x, ((![v226] : Fin 1 → IVec S16 32) a x).toNat < S768.size a)
theorem k1_idx60_inb : ∀ (v226 : IVec S16 32) (k1_hw60 : k1_chk60 v226), ∀ a x, ((![v226] : Fin 1 → IVec S16 32) a x).toNat < S768.size a := fun v226 k1_hw60 => k1_hw60

def k1_chk61 (v229 : IVec S16 32) : Prop :=
  (∀ a x, ((![v229] : Fin 1 → IVec S16 32) a x).toNat < S16384.size a)
theorem k1_idx61_inb : ∀ (v229 : IVec S16 32) (k1_hw61 : k1_chk61 v229), ∀ a x, ((![v229] : Fin 1 → IVec S16 32) a x).toNat < S16384.size a := fun v229 k1_hw61 => k1_hw61

def k1_chk62 (v232 : IVec S16 32) : Prop :=
  (∀ a x, ((![v232] : Fin 1 → IVec S16 32) a x).toNat < S16384.size a)
theorem k1_idx62_inb : ∀ (v232 : IVec S16 32) (k1_hw62 : k1_chk62 v232), ∀ a x, ((![v232] : Fin 1 → IVec S16 32) a x).toNat < S16384.size a := fun v232 k1_hw62 => k1_hw62

def k1_chk63 (v237 : IVec S16 32) : Prop :=
  (∀ a x, ((![v237] : Fin 1 → IVec S16 32) a x).toNat < S768.size a)
theorem k1_idx63_inb : ∀ (v237 : IVec S16 32) (k1_hw63 : k1_chk63 v237), ∀ a x, ((![v237] : Fin 1 → IVec S16 32) a x).toNat < S768.size a := fun v237 k1_hw63 => k1_hw63

def k1_chk64 (v241 : IVec S16 32) : Prop :=
  (∀ a x, ((![v241] : Fin 1 → IVec S16 32) a x).toNat < S768.size a)
theorem k1_idx64_inb : ∀ (v241 : IVec S16 32) (k1_hw64 : k1_chk64 v241), ∀ a x, ((![v241] : Fin 1 → IVec S16 32) a x).toNat < S768.size a := fun v241 k1_hw64 => k1_hw64

def k1_chk65 (v244 : IVec S16 32) : Prop :=
  (∀ a x, ((![v244] : Fin 1 → IVec S16 32) a x).toNat < S16384.size a)
theorem k1_idx65_inb : ∀ (v244 : IVec S16 32) (k1_hw65 : k1_chk65 v244), ∀ a x, ((![v244] : Fin 1 → IVec S16 32) a x).toNat < S16384.size a := fun v244 k1_hw65 => k1_hw65

def k1_chk66 (v247 : IVec S16 32) : Prop :=
  (∀ a x, ((![v247] : Fin 1 → IVec S16 32) a x).toNat < S16384.size a)
theorem k1_idx66_inb : ∀ (v247 : IVec S16 32) (k1_hw66 : k1_chk66 v247), ∀ a x, ((![v247] : Fin 1 → IVec S16 32) a x).toNat < S16384.size a := fun v247 k1_hw66 => k1_hw66

def k1_chk67 (v252 : IVec S16 32) : Prop :=
  (∀ a x, ((![v252] : Fin 1 → IVec S16 32) a x).toNat < S768.size a)
theorem k1_idx67_inb : ∀ (v252 : IVec S16 32) (k1_hw67 : k1_chk67 v252), ∀ a x, ((![v252] : Fin 1 → IVec S16 32) a x).toNat < S768.size a := fun v252 k1_hw67 => k1_hw67

def k1_chk68 (v256 : IVec S16 32) : Prop :=
  (∀ a x, ((![v256] : Fin 1 → IVec S16 32) a x).toNat < S768.size a)
theorem k1_idx68_inb : ∀ (v256 : IVec S16 32) (k1_hw68 : k1_chk68 v256), ∀ a x, ((![v256] : Fin 1 → IVec S16 32) a x).toNat < S768.size a := fun v256 k1_hw68 => k1_hw68

def k1_chk69 (v259 : IVec S16 32) : Prop :=
  (∀ a x, ((![v259] : Fin 1 → IVec S16 32) a x).toNat < S16384.size a)
theorem k1_idx69_inb : ∀ (v259 : IVec S16 32) (k1_hw69 : k1_chk69 v259), ∀ a x, ((![v259] : Fin 1 → IVec S16 32) a x).toNat < S16384.size a := fun v259 k1_hw69 => k1_hw69

def k1_chk70 (v262 : IVec S16 32) : Prop :=
  (∀ a x, ((![v262] : Fin 1 → IVec S16 32) a x).toNat < S16384.size a)
theorem k1_idx70_inb : ∀ (v262 : IVec S16 32) (k1_hw70 : k1_chk70 v262), ∀ a x, ((![v262] : Fin 1 → IVec S16 32) a x).toNat < S16384.size a := fun v262 k1_hw70 => k1_hw70

def k1_chk71 (v267 : IVec S16 32) : Prop :=
  (∀ a x, ((![v267] : Fin 1 → IVec S16 32) a x).toNat < S768.size a)
theorem k1_idx71_inb : ∀ (v267 : IVec S16 32) (k1_hw71 : k1_chk71 v267), ∀ a x, ((![v267] : Fin 1 → IVec S16 32) a x).toNat < S768.size a := fun v267 k1_hw71 => k1_hw71

def k1_chk72 (v271 : IVec S16 32) : Prop :=
  (∀ a x, ((![v271] : Fin 1 → IVec S16 32) a x).toNat < S768.size a)
theorem k1_idx72_inb : ∀ (v271 : IVec S16 32) (k1_hw72 : k1_chk72 v271), ∀ a x, ((![v271] : Fin 1 → IVec S16 32) a x).toNat < S768.size a := fun v271 k1_hw72 => k1_hw72

def k1_chk73 (v274 : IVec S16 32) : Prop :=
  (∀ a x, ((![v274] : Fin 1 → IVec S16 32) a x).toNat < S16384.size a)
theorem k1_idx73_inb : ∀ (v274 : IVec S16 32) (k1_hw73 : k1_chk73 v274), ∀ a x, ((![v274] : Fin 1 → IVec S16 32) a x).toNat < S16384.size a := fun v274 k1_hw73 => k1_hw73

def k1_chk74 (v277 : IVec S16 32) : Prop :=
  (∀ a x, ((![v277] : Fin 1 → IVec S16 32) a x).toNat < S16384.size a)
theorem k1_idx74_inb : ∀ (v277 : IVec S16 32) (k1_hw74 : k1_chk74 v277), ∀ a x, ((![v277] : Fin 1 → IVec S16 32) a x).toNat < S16384.size a := fun v277 k1_hw74 => k1_hw74

def k1_chk75 (v282 : IVec S16 32) : Prop :=
  (∀ a x, ((![v282] : Fin 1 → IVec S16 32) a x).toNat < S768.size a)
theorem k1_idx75_inb : ∀ (v282 : IVec S16 32) (k1_hw75 : k1_chk75 v282), ∀ a x, ((![v282] : Fin 1 → IVec S16 32) a x).toNat < S768.size a := fun v282 k1_hw75 => k1_hw75

def k1_chk76 (v286 : IVec S16 32) : Prop :=
  (∀ a x, ((![v286] : Fin 1 → IVec S16 32) a x).toNat < S768.size a)
theorem k1_idx76_inb : ∀ (v286 : IVec S16 32) (k1_hw76 : k1_chk76 v286), ∀ a x, ((![v286] : Fin 1 → IVec S16 32) a x).toNat < S768.size a := fun v286 k1_hw76 => k1_hw76

def k1_chk77 (v289 : IVec S16 32) : Prop :=
  (∀ a x, ((![v289] : Fin 1 → IVec S16 32) a x).toNat < S16384.size a)
theorem k1_idx77_inb : ∀ (v289 : IVec S16 32) (k1_hw77 : k1_chk77 v289), ∀ a x, ((![v289] : Fin 1 → IVec S16 32) a x).toNat < S16384.size a := fun v289 k1_hw77 => k1_hw77

def k1_chk78 (v292 : IVec S16 32) : Prop :=
  (∀ a x, ((![v292] : Fin 1 → IVec S16 32) a x).toNat < S16384.size a)
theorem k1_idx78_inb : ∀ (v292 : IVec S16 32) (k1_hw78 : k1_chk78 v292), ∀ a x, ((![v292] : Fin 1 → IVec S16 32) a x).toNat < S16384.size a := fun v292 k1_hw78 => k1_hw78

def k1_chk79 (v297 : IVec S16 32) : Prop :=
  (∀ a x, ((![v297] : Fin 1 → IVec S16 32) a x).toNat < S768.size a)
theorem k1_idx79_inb : ∀ (v297 : IVec S16 32) (k1_hw79 : k1_chk79 v297), ∀ a x, ((![v297] : Fin 1 → IVec S16 32) a x).toNat < S768.size a := fun v297 k1_hw79 => k1_hw79

def k1_chk80 (v301 : IVec S16 32) : Prop :=
  (∀ a x, ((![v301] : Fin 1 → IVec S16 32) a x).toNat < S768.size a)
theorem k1_idx80_inb : ∀ (v301 : IVec S16 32) (k1_hw80 : k1_chk80 v301), ∀ a x, ((![v301] : Fin 1 → IVec S16 32) a x).toNat < S768.size a := fun v301 k1_hw80 => k1_hw80

def k1_chk81 (v304 : IVec S16 32) : Prop :=
  (∀ a x, ((![v304] : Fin 1 → IVec S16 32) a x).toNat < S16384.size a)
theorem k1_idx81_inb : ∀ (v304 : IVec S16 32) (k1_hw81 : k1_chk81 v304), ∀ a x, ((![v304] : Fin 1 → IVec S16 32) a x).toNat < S16384.size a := fun v304 k1_hw81 => k1_hw81

def k1_chk82 (v307 : IVec S16 32) : Prop :=
  (∀ a x, ((![v307] : Fin 1 → IVec S16 32) a x).toNat < S16384.size a)
theorem k1_idx82_inb : ∀ (v307 : IVec S16 32) (k1_hw82 : k1_chk82 v307), ∀ a x, ((![v307] : Fin 1 → IVec S16 32) a x).toNat < S16384.size a := fun v307 k1_hw82 => k1_hw82

def k1_chk83 (v312 : IVec S16 32) : Prop :=
  (∀ a x, ((![v312] : Fin 1 → IVec S16 32) a x).toNat < S768.size a)
theorem k1_idx83_inb : ∀ (v312 : IVec S16 32) (k1_hw83 : k1_chk83 v312), ∀ a x, ((![v312] : Fin 1 → IVec S16 32) a x).toNat < S768.size a := fun v312 k1_hw83 => k1_hw83

def k1_chk84 (v316 : IVec S16 32) : Prop :=
  (∀ a x, ((![v316] : Fin 1 → IVec S16 32) a x).toNat < S768.size a)
theorem k1_idx84_inb : ∀ (v316 : IVec S16 32) (k1_hw84 : k1_chk84 v316), ∀ a x, ((![v316] : Fin 1 → IVec S16 32) a x).toNat < S768.size a := fun v316 k1_hw84 => k1_hw84

def k1_chk85 (v319 : IVec S16 32) : Prop :=
  (∀ a x, ((![v319] : Fin 1 → IVec S16 32) a x).toNat < S16384.size a)
theorem k1_idx85_inb : ∀ (v319 : IVec S16 32) (k1_hw85 : k1_chk85 v319), ∀ a x, ((![v319] : Fin 1 → IVec S16 32) a x).toNat < S16384.size a := fun v319 k1_hw85 => k1_hw85

def k1_chk86 (v322 : IVec S16 32) : Prop :=
  (∀ a x, ((![v322] : Fin 1 → IVec S16 32) a x).toNat < S16384.size a)
theorem k1_idx86_inb : ∀ (v322 : IVec S16 32) (k1_hw86 : k1_chk86 v322), ∀ a x, ((![v322] : Fin 1 → IVec S16 32) a x).toNat < S16384.size a := fun v322 k1_hw86 => k1_hw86

def k1_chk87 (v327 : IVec S16 32) : Prop :=
  (∀ a x, ((![v327] : Fin 1 → IVec S16 32) a x).toNat < S768.size a)
theorem k1_idx87_inb : ∀ (v327 : IVec S16 32) (k1_hw87 : k1_chk87 v327), ∀ a x, ((![v327] : Fin 1 → IVec S16 32) a x).toNat < S768.size a := fun v327 k1_hw87 => k1_hw87

def k1_chk88 (v331 : IVec S16 32) : Prop :=
  (∀ a x, ((![v331] : Fin 1 → IVec S16 32) a x).toNat < S768.size a)
theorem k1_idx88_inb : ∀ (v331 : IVec S16 32) (k1_hw88 : k1_chk88 v331), ∀ a x, ((![v331] : Fin 1 → IVec S16 32) a x).toNat < S768.size a := fun v331 k1_hw88 => k1_hw88

def k1_chk89 (v334 : IVec S16 32) : Prop :=
  (∀ a x, ((![v334] : Fin 1 → IVec S16 32) a x).toNat < S16384.size a)
theorem k1_idx89_inb : ∀ (v334 : IVec S16 32) (k1_hw89 : k1_chk89 v334), ∀ a x, ((![v334] : Fin 1 → IVec S16 32) a x).toNat < S16384.size a := fun v334 k1_hw89 => k1_hw89

def k1_chk90 (v337 : IVec S16 32) : Prop :=
  (∀ a x, ((![v337] : Fin 1 → IVec S16 32) a x).toNat < S16384.size a)
theorem k1_idx90_inb : ∀ (v337 : IVec S16 32) (k1_hw90 : k1_chk90 v337), ∀ a x, ((![v337] : Fin 1 → IVec S16 32) a x).toNat < S16384.size a := fun v337 k1_hw90 => k1_hw90

def k1_chk91 (v342 : IVec S16 32) : Prop :=
  (∀ a x, ((![v342] : Fin 1 → IVec S16 32) a x).toNat < S768.size a)
theorem k1_idx91_inb : ∀ (v342 : IVec S16 32) (k1_hw91 : k1_chk91 v342), ∀ a x, ((![v342] : Fin 1 → IVec S16 32) a x).toNat < S768.size a := fun v342 k1_hw91 => k1_hw91

def k1_chk92 (v346 : IVec S16 32) : Prop :=
  (∀ a x, ((![v346] : Fin 1 → IVec S16 32) a x).toNat < S768.size a)
theorem k1_idx92_inb : ∀ (v346 : IVec S16 32) (k1_hw92 : k1_chk92 v346), ∀ a x, ((![v346] : Fin 1 → IVec S16 32) a x).toNat < S768.size a := fun v346 k1_hw92 => k1_hw92

def k1_chk93 (v349 : IVec S16 32) : Prop :=
  (∀ a x, ((![v349] : Fin 1 → IVec S16 32) a x).toNat < S16384.size a)
theorem k1_idx93_inb : ∀ (v349 : IVec S16 32) (k1_hw93 : k1_chk93 v349), ∀ a x, ((![v349] : Fin 1 → IVec S16 32) a x).toNat < S16384.size a := fun v349 k1_hw93 => k1_hw93

def k1_chk94 (v352 : IVec S16 32) : Prop :=
  (∀ a x, ((![v352] : Fin 1 → IVec S16 32) a x).toNat < S16384.size a)
theorem k1_idx94_inb : ∀ (v352 : IVec S16 32) (k1_hw94 : k1_chk94 v352), ∀ a x, ((![v352] : Fin 1 → IVec S16 32) a x).toNat < S16384.size a := fun v352 k1_hw94 => k1_hw94

def k1_chk95 (v357 : IVec S16 32) : Prop :=
  (∀ a x, ((![v357] : Fin 1 → IVec S16 32) a x).toNat < S768.size a)
theorem k1_idx95_inb : ∀ (v357 : IVec S16 32) (k1_hw95 : k1_chk95 v357), ∀ a x, ((![v357] : Fin 1 → IVec S16 32) a x).toNat < S768.size a := fun v357 k1_hw95 => k1_hw95

def k1_chk96 (v361 : IVec S16 32) : Prop :=
  (∀ a x, ((![v361] : Fin 1 → IVec S16 32) a x).toNat < S768.size a)
theorem k1_idx96_inb : ∀ (v361 : IVec S16 32) (k1_hw96 : k1_chk96 v361), ∀ a x, ((![v361] : Fin 1 → IVec S16 32) a x).toNat < S768.size a := fun v361 k1_hw96 => k1_hw96
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_119 : BitVec 32 := 2#32
  let v364 : BitVec 32 := Scalar.muli v1 c2_i32_119
  let c384_i32_120 : BitVec 32 := 384#32
  let v365 : BitVec 32 := Scalar.muli v364 c384_i32_120
  ![v365.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x128x64x64 : Shape := ⟨4, ![2, 128, 64, 64]⟩
abbrev S2x64x64 : Shape := ⟨3, ![2, 64, 64]⟩
abbrev S2x50x120x2 : Shape := ⟨4, ![2, 50, 120, 2]⟩
abbrev S2x64x64x128 : Shape := ⟨4, ![2, 64, 64, 128]⟩
abbrev S2x4096x128 : Shape := ⟨3, ![2, 4096, 128]⟩
abbrev S_ : Shape := ⟨0, ![]⟩
abbrev S2x4096 : Shape := ⟨2, ![2, 4096]⟩
abbrev S2x4096x1 : Shape := ⟨3, ![2, 4096, 1]⟩
abbrev S64 : Shape := ⟨1, ![64]⟩
abbrev S64x64 : Shape := ⟨2, ![64, 64]⟩
abbrev S64x64x1 : Shape := ⟨3, ![64, 64, 1]⟩
abbrev S64x64x2 : Shape := ⟨3, ![64, 64, 2]⟩
abbrev S4096x2 : Shape := ⟨2, ![4096, 2]⟩
abbrev S2x128x4096 : Shape := ⟨3, ![2, 128, 4096]⟩
abbrev S2x4096x4096 : Shape := ⟨3, ![2, 4096, 4096]⟩
abbrev S2x4096x3 : Shape := ⟨3, ![2, 4096, 3]⟩
abbrev S2x4096x3x1 : Shape := ⟨4, ![2, 4096, 3, 1]⟩
abbrev S1 : Shape := ⟨1, ![1]⟩
abbrev S1x1x1x1 : Shape := ⟨4, ![1, 1, 1, 1]⟩
abbrev S2x4096x3x128 : Shape := ⟨4, ![2, 4096, 3, 128]⟩
abbrev S2x4096x1x128 : Shape := ⟨4, ![2, 4096, 1, 128]⟩
abbrev S2x4096x3x2 : Shape := ⟨4, ![2, 4096, 3, 2]⟩
abbrev S2x4096x2 : Shape := ⟨3, ![2, 4096, 2]⟩
abbrev S2x64x64x2 : Shape := ⟨4, ![2, 64, 64, 2]⟩
abbrev S2 : Shape := ⟨1, ![2]⟩
abbrev S2x1x1 : Shape := ⟨3, ![2, 1, 1]⟩
abbrev S2x50x120x1 : Shape := ⟨4, ![2, 50, 120, 1]⟩
abbrev S2x50x120 : Shape := ⟨3, ![2, 50, 120]⟩
abbrev S2x50x120x3 : Shape := ⟨4, ![2, 50, 120, 3]⟩

abbrev nBuf : Space → Nat
  | .hbm => 154
  | .vmem => 0
  | .smem => 0
  | _ => 0

abbrev hbmTy0_0 (i : Nat) : BufTy := match i % 128 with
  | 0 => ⟨S2x128x64x64, .f32⟩
  | 1 => ⟨S2x128x64x64, .f32⟩
  | 2 => ⟨S2x64x64, .f32⟩
  | 3 => ⟨S2x64x64, .f32⟩
  | 4 => ⟨S2x64x64, .i32⟩
  | 5 => ⟨S2x50x120x2, .f32⟩
  | 6 => ⟨S2x64x64x128, .f32⟩
  | 7 => ⟨S2x4096x128, .f32⟩
  | 8 => ⟨S2x64x64x128, .f32⟩
  | 9 => ⟨S2x4096x128, .f32⟩
  | 10 => ⟨S2x4096x128, .f32⟩
  | 11 => ⟨S_, .f32⟩
  | 12 => ⟨S2x4096, .f32⟩
  | 13 => ⟨S2x4096x1, .f32⟩
  | 14 => ⟨S2x4096x1, .f32⟩
  | 15 => ⟨S_, .f32⟩
  | 16 => ⟨S2x4096x1, .f32⟩
  | 17 => ⟨S2x4096x1, .f32⟩
  | 18 => ⟨S2x4096x128, .f32⟩
  | 19 => ⟨S2x4096x128, .f32⟩
  | 20 => ⟨S2x4096x128, .f32⟩
  | 21 => ⟨S_, .f32⟩
  | 22 => ⟨S2x4096, .f32⟩
  | 23 => ⟨S2x4096x1, .f32⟩
  | 24 => ⟨S2x4096x1, .f32⟩
  | 25 => ⟨S_, .f32⟩
  | 26 => ⟨S2x4096x1, .f32⟩
  | 27 => ⟨S2x4096x1, .f32⟩
  | 28 => ⟨S2x4096x128, .f32⟩
  | 29 => ⟨S2x4096x128, .f32⟩
  | 30 => ⟨S64, .i32⟩
  | 31 => ⟨S64, .i32⟩
  | 32 => ⟨S64x64, .i32⟩
  | 33 => ⟨S64x64, .i32⟩
  | 34 => ⟨S64x64x1, .i32⟩
  | 35 => ⟨S64x64x1, .i32⟩
  | 36 => ⟨S64x64x2, .i32⟩
  | 37 => ⟨S4096x2, .i32⟩
  | 38 => ⟨S4096x2, .f32⟩
  | 39 => ⟨S2x128x4096, .f32⟩
  | 40 => ⟨S2x4096x4096, .f32⟩
  | 41 => ⟨S2x4096x3, .f32⟩
  | 42 => ⟨S2x4096x3, .i32⟩
  | 43 => ⟨S_, .i32⟩
  | 44 => ⟨S2x4096x3, .i32⟩
  | 45 => ⟨S2x4096x3, .i1⟩
  | 46 => ⟨S_, .i32⟩
  | 47 => ⟨S2x4096x3, .i32⟩
  | 48 => ⟨S2x4096x3, .i32⟩
  | 49 => ⟨S2x4096x3, .i32⟩
  | 50 => ⟨S2x4096x3x1, .i32⟩
  | 51 => ⟨S1, .i32⟩
  | 52 => ⟨S_, .i32⟩
  | 53 => ⟨S2x4096x3x1, .i32⟩
  | 54 => ⟨S2x4096x3x1, .i1⟩
  | 55 => ⟨S1x1x1x1, .i32⟩
  | 56 => ⟨S2x4096x3x1, .i32⟩
  | 57 => ⟨S2x4096x3x1, .i1⟩
  | 58 => ⟨S2x4096x3x1, .i1⟩
  | 59 => ⟨S_, .i1⟩
  | 60 => ⟨S2x4096x3, .i1⟩
  | 61 => ⟨S2x4096x3x128, .f32⟩
  | 62 => ⟨S2x4096x3x128, .i1⟩
  | 63 => ⟨S_, .f32⟩
  | 64 => ⟨S2x4096x3x128, .f32⟩
  | 65 => ⟨S2x4096x3x128, .f32⟩
  | 66 => ⟨S2x4096x1x128, .f32⟩
  | 67 => ⟨S2x4096x3x128, .f32⟩
  | 68 => ⟨S2x4096x3x128, .f32⟩
  | 69 => ⟨S_, .f32⟩
  | 70 => ⟨S2x4096x3, .f32⟩
  | 71 => ⟨S_, .i32⟩
  | 72 => ⟨S2x4096x3, .i32⟩
  | 73 => ⟨S2x4096x3, .i1⟩
  | 74 => ⟨S_, .i32⟩
  | 75 => ⟨S2x4096x3, .i32⟩
  | 76 => ⟨S2x4096x3, .i32⟩
  | 77 => ⟨S2x4096x3, .i32⟩
  | 78 => ⟨S2x4096x3x1, .i32⟩
  | 79 => ⟨S1, .i32⟩
  | 80 => ⟨S_, .i32⟩
  | 81 => ⟨S2x4096x3x1, .i32⟩
  | 82 => ⟨S2x4096x3x1, .i1⟩
  | 83 => ⟨S1x1x1x1, .i32⟩
  | 84 => ⟨S2x4096x3x1, .i32⟩
  | 85 => ⟨S2x4096x3x1, .i1⟩
  | 86 => ⟨S2x4096x3x1, .i1⟩
  | 87 => ⟨S_, .i1⟩
  | 88 => ⟨S2x4096x3, .i1⟩
  | 89 => ⟨S2x4096x3x2, .f32⟩
  | 90 => ⟨S2x4096x3x2, .i1⟩
  | 91 => ⟨S_, .f32⟩
  | 92 => ⟨S2x4096x3x2, .f32⟩
  | 93 => ⟨S2x4096x3x2, .f32⟩
  | 94 => ⟨S2x4096x3x1, .f32⟩
  | 95 => ⟨S2x4096x3x2, .f32⟩
  | 96 => ⟨S2x4096x3x2, .f32⟩
  | 97 => ⟨S_, .f32⟩
  | 98 => ⟨S2x4096x2, .f32⟩
  | 99 => ⟨S_, .f32⟩
  | 100 => ⟨S2x4096, .f32⟩
  | 101 => ⟨S2x4096x1, .f32⟩
  | 102 => ⟨S2x4096x2, .f32⟩
  | 103 => ⟨S2x4096x2, .f32⟩
  | 104 => ⟨S2x64x64x2, .f32⟩
  | 105 => ⟨S_, .f32⟩
  | 106 => ⟨S2x50x120x2, .f32⟩
  | 107 => ⟨S2x50x120x2, .f32⟩
  | 108 => ⟨S2x50x120x2, .f32⟩
  | 109 => ⟨S2x50x120x2, .i32⟩
  | 110 => ⟨S_, .i32⟩
  | 111 => ⟨S_, .i32⟩
  | 112 => ⟨S_, .i32⟩
  | 113 => ⟨S2x50x120x2, .i32⟩
  | 114 => ⟨S2x50x120x2, .i32⟩
  | 115 => ⟨S_, .i32⟩
  | 116 => ⟨S2x50x120x2, .i32⟩
  | 117 => ⟨S2x50x120x2, .i32⟩
  | 118 => ⟨S2, .i32⟩
  | 119 => ⟨S2x1x1, .i32⟩
  | 120 => ⟨S2x50x120x1, .i32⟩
  | 121 => ⟨S2x50x120, .i32⟩
  | 122 => ⟨S2x50x120x1, .i32⟩
  | 123 => ⟨S2x50x120, .i32⟩
  | 124 => ⟨S_, .i32⟩
  | 125 => ⟨S2x1x1, .i32⟩
  | 126 => ⟨S2x1x1, .i1⟩
  | 127 => ⟨S_, .i32⟩
  | _ => ⟨S2x128x64x64, .f32⟩

abbrev hbmTy0_1 (i : Nat) : BufTy := match i % 128 with
  | 0 => ⟨S2x1x1, .i32⟩
  | 1 => ⟨S2x1x1, .i32⟩
  | 2 => ⟨S2x1x1, .i32⟩
  | 3 => ⟨S_, .i32⟩
  | 4 => ⟨S2x50x120, .i32⟩
  | 5 => ⟨S2x50x120, .i1⟩
  | 6 => ⟨S_, .i32⟩
  | 7 => ⟨S2x50x120, .i32⟩
  | 8 => ⟨S2x50x120, .i32⟩
  | 9 => ⟨S2x50x120, .i32⟩
  | 10 => ⟨S_, .i32⟩
  | 11 => ⟨S2x50x120, .i32⟩
  | 12 => ⟨S2x50x120, .i1⟩
  | 13 => ⟨S_, .i32⟩
  | 14 => ⟨S2x50x120, .i32⟩
  | 15 => ⟨S2x50x120, .i32⟩
  | 16 => ⟨S2x50x120, .i32⟩
  | 17 => ⟨S2x50x120, .i32⟩
  | 18 => ⟨S2x50x120x1, .i32⟩
  | 19 => ⟨S2x50x120x1, .i32⟩
  | 20 => ⟨S2x50x120x1, .i32⟩
  | 21 => ⟨S2x50x120x3, .i32⟩
  | 22 => ⟨S2x50x120x2, .f32⟩
  | 23 => ⟨S_, .f32⟩
  | 24 => ⟨S2x50x120x2, .f32⟩
  | 25 => ⟨S2x50x120x2, .f32⟩
  | _ => ⟨S2x128x64x64, .f32⟩

abbrev hbmTy (i : Nat) : BufTy := match i / 128 with
  | 0 => hbmTy0_0 i
  | 1 => hbmTy0_1 i
  | _ => ⟨S2x128x64x64, .f32⟩

abbrev bufTy : (tb : Table) → Fin (tcTables nBuf tb) → BufTy
  | .hbm, ⟨i, _⟩ => hbmTy i
  | _, _ => ⟨S2x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_call1_v2 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_values : Ref sig .tc := ⟨.hbm, 41, rfl⟩
abbrev main_indices : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_v14 : Ref sig .tc := ⟨.hbm, 62, rfl⟩
abbrev main_call2_cst : Ref sig .tc := ⟨.hbm, 63, rfl⟩
abbrev main_call2_v15 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_1 : Ref sig .tc := ⟨.hbm, 69, rfl⟩
abbrev main_v29 : Ref sig .tc := ⟨.hbm, 70, rfl⟩
abbrev main_call3_c : Ref sig .tc := ⟨.hbm, 71, rfl⟩
abbrev main_call3_v0 : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_c_1 : Ref sig .tc := ⟨.hbm, 79, rfl⟩
abbrev main_call3_c_2 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_3 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_call3_cst : Ref sig .tc := ⟨.hbm, 91, rfl⟩
abbrev main_call3_v15 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_cst_2 : Ref sig .tc := ⟨.hbm, 97, rfl⟩
abbrev main_v34 : Ref sig .tc := ⟨.hbm, 98, rfl⟩
abbrev main_cst_3 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_cst_4 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_c : Ref sig .tc := ⟨.hbm, 110, rfl⟩
abbrev main_c_5 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_c_6 : Ref sig .tc := ⟨.hbm, 124, rfl⟩
abbrev main_v51 : Ref sig .tc := ⟨.hbm, 125, rfl⟩
abbrev main_v52 : Ref sig .tc := ⟨.hbm, 126, rfl⟩
abbrev main_c_7 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_c_8 : Ref sig .tc := ⟨.hbm, 131, rfl⟩
abbrev main_v56 : Ref sig .tc := ⟨.hbm, 132, rfl⟩
abbrev main_v57 : Ref sig .tc := ⟨.hbm, 133, rfl⟩
abbrev main_c_9 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_c_10 : Ref sig .tc := ⟨.hbm, 138, rfl⟩
abbrev main_v61 : Ref sig .tc := ⟨.hbm, 139, rfl⟩
abbrev main_v62 : Ref sig .tc := ⟨.hbm, 140, rfl⟩
abbrev main_c_11 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_cst_12 : Ref sig .tc := ⟨.hbm, 151, rfl⟩
abbrev main_v72 : Ref sig .tc := ⟨.hbm, 152, rfl⟩
abbrev main_v73 : Ref sig .tc := ⟨.hbm, 153, rfl⟩

abbrev nD : Nat := 1
abbrev τ : Topo := Topo.v7x

variable {F : FTy → Type} [FloatOps F]
-- ==== Proof.Steps.lean ====
/-
  The gather kernel's body as twenty-four equal steps: one step loads sixteen indices, gathers the two table words
  each names, scales them and scatters them to the task's staging buffer. `cc1_k_eq_steps` states the printed body is
  two fetches, the twenty-four steps in order, and the write-out.
-/
module

public import proofs.«01_k».proof.Defs
public import proofs.«01_k».proof.Proof.Gen.KernelIdeal
public import proofs.«01_k».proof.Proof.Gen.KernelIdeal.Skeleton

@[expose] public section

noncomputable section

namespace Cert.Proof.Steps

open Cert.KernelIdeal Cert.KernelIdeal.Gen Idealize.ShloMosaic Idealize.SL.Sem

variable {F : FTy → Type} [FloatOps F]

/-- A vector-subcore program of the task at grid coordinates `i`. -/
abbrev TaskProg (F : FTy → Type) (i : grid1.Coords) : Type 1 :=
  Prog (TpuEff nD τ sig (Elt F) Λ₀ (.scVector ((i 0).castLE hcore1) ((i 1).castLE hsub1))) PUnit

/-- The sixteen indices of step `j` lie inside the task's 384. -/
theorem step_inb (j : ℕ) (hj : j < 24) : ∀ a, (![16 * j] : Fin 1 → ℕ) a + S16.size a ≤ S384.size a := by
  intro a; fin_cases a; show 16 * j + 16 ≤ 384; omega

/-- The lane numbers, doubled and moved to step `j`'s first word of the staging buffer. -/
def stepPos (j : ℕ) : IVec S16 32 :=
  addi (broadcast S16 (BitVec.ofNat 32 (32 * j))) (muli (broadcast S16 2#32) (iota .scVector S16 32 [0] iota_S16_d0_w32_scVector))

/-- The word after each of `v`. -/
def next (v : IVec S16 32) : IVec S16 32 := addi v (broadcast S16 1#32)

/-- A gathered vector scaled by 1/64. -/
def scaled (g : Vec F S16 .f32) : FVec F S16 .f32 := mulf (F := F) (φ := .f32) g (broadcast S16 (Scalar.ofBits .f32 0x3C800000#32 : F .f32))

/-- One step of the gather, then `rest`. -/
def step (i : grid1.Coords) (arg5 : Memref sig .scVector .vmem S16384 .f32) (arg6 : Memref sig .scVector .vmem S384 .i32)
    (arg7 : Memref sig .scVector .vmem S768 .f32) (j : ℕ) (hj : j < 24) (rest : TaskProg F i) : TaskProg F i := do
  let v : Vec F S16 .i32 ← Prog.lift (.load arg6 (Rect.unit (s := S384) ![16 * j] S16.size (step_inb j hj)).toLoadRect (View.loadsAt_vmem h_S16))
  have h1 : k1_chk1 v := (← Prog.lift (TpuEff.assume (k1_chk1 v) (k1_chk1.dec v))).down
  let g0 : Vec F S16 .f32 ← SparseCore.vectorLoadIdx arg5 ![v] (k1_idx1_inb v h1) (View.loads_vmem h_S16384)
  have h2 : k1_chk1 (next v) := (← Prog.lift (TpuEff.assume (k1_chk1 (next v)) (k1_chk1.dec (next v)))).down
  let g1 : Vec F S16 .f32 ← SparseCore.vectorLoadIdx arg5 ![next v] (k1_idx1_inb (next v) h2) (View.loads_vmem h_S16384)
  have h3 : k1_chk3 (stepPos j) := (← Prog.lift (TpuEff.assume (k1_chk3 (stepPos j)) (k1_chk3.dec (stepPos j)))).down
  SparseCore.vectorStoreIdx arg7 ![stepPos j] (scaled g0) (fun _ => 1#1) false (k1_idx3_inb (stepPos j) h3) (View.stores_vmem_bits_univ h_S768 rfl)
  have h4 : k1_chk3 (next (stepPos j)) := (← Prog.lift (TpuEff.assume (k1_chk3 (next (stepPos j))) (k1_chk3.dec (next (stepPos j))))).down
  SparseCore.vectorStoreIdx arg7 ![next (stepPos j)] (scaled g1) (fun _ => 1#1) false (k1_idx3_inb (next (stepPos j)) h4) (View.stores_vmem_bits_univ h_S768 rfl)
  rest

/-- The last `n` of the twenty-four steps, then `rest`. -/
def steps (i : grid1.Coords) (arg5 : Memref sig .scVector .vmem S16384 .f32) (arg6 : Memref sig .scVector .vmem S384 .i32)
    (arg7 : Memref sig .scVector .vmem S768 .f32) (rest : TaskProg F i) : ℕ → TaskProg F i
  | 0 => rest
  | n + 1 => step i arg5 arg6 arg7 (23 - n) (by omega) (steps i arg5 arg6 arg7 rest n)

/-- The write-out of a task's staging buffer. -/
def writeOut (i : grid1.Coords) (arg4 : Memref sig .scVector .hbm S24576 .f32) (harg4 : arg4.IsWhole) (arg7 : Memref sig .scVector .vmem S768 .f32) (harg7 : arg7.IsWhole)
    (r2 : DmaSems sig S_) : TaskProg F i := do
  Prog.lift (.enqueueDma arg7 (.here (arg4.slice (Rect.unit (s := S24576) (k1_off2 i) S768.size (k1_off2_inb i)) (fun _ => rfl))) (.dma r2.sem) harg7.wordExact (View.wordExact_bits rfl) ⟨Or.inl rfl, trivial⟩)
  Prog.lift (.waitDma2 r2.sem arg7 (arg4.slice (Rect.unit (s := S24576) (k1_off2 i) S768.size (k1_off2_inb i)) (fun _ => rfl)) harg7.wordExact (View.wordExact_bits rfl))
  pure ⟨⟩

/-- The whole task: fetch the table, fetch the task's indices, the steps, the write-out. -/
def task (i : grid1.Coords) (arg2 : Memref sig .scVector .hbm S16384 .f32) (harg2 : arg2.IsWhole) (arg3 : Memref sig .scVector .hbm S12288 .i32) (_harg3 : arg3.IsWhole)
    (arg4 : Memref sig .scVector .hbm S24576 .f32) (harg4 : arg4.IsWhole) (arg5 : Memref sig .scVector .vmem S16384 .f32) (harg5 : arg5.IsWhole)
    (arg6 : Memref sig .scVector .vmem S384 .i32) (harg6 : arg6.IsWhole) (arg7 : Memref sig .scVector .vmem S768 .f32) (harg7 : arg7.IsWhole)
    (r0 r1 r2 : DmaSems sig S_) : TaskProg F i := do
  Prog.lift (.enqueueDma arg2 (.here arg5) (.dma r0.sem) harg2.wordExact harg5.wordExact ⟨Or.inl rfl, trivial⟩)
  Prog.lift (.waitDma2 r0.sem arg2 arg5 harg2.wordExact harg5.wordExact)
  Prog.lift (.enqueueDma (arg3.slice (Rect.unit (s := S12288) (k1_off1 i) S384.size (k1_off1_inb i)) (fun _ => rfl)) (.here arg6) (.dma r1.sem) (View.wordExact_bits rfl) harg6.wordExact ⟨Or.inl rfl, trivial⟩)
  Prog.lift (.waitDma2 r1.sem (arg3.slice (Rect.unit (s := S12288) (k1_off1 i) S384.size (k1_off1_inb i)) (fun _ => rfl)) arg6 (View.wordExact_bits rfl) harg6.wordExact)
  steps i arg5 arg6 arg7 (writeOut i arg4 harg4 arg7 harg7 r2) 24

set_option maxRecDepth 65536 in
set_option maxHeartbeats 4000000 in
/-- The printed body is the two fetches, the twenty-four steps and the write-out. -/
theorem cc1_k_eq_task : cc1_k (F := F) = task (F := F) := rfl

end Cert.Proof.Steps

end
-- ==== Proof.Setup.lean ====
/-
  The launch's set-up: the configuration the launch theorem takes, the resource algebra (the handshakes' rounds, the
  TensorCore pipeline's rounds, the counters of local copies), the buffers of the gather call and what its tasks compute.
-/
module

public import proofs.«01_k».proof.Proof.Steps
public import Idealize.ShloMosaic.Lib.SparseCore.Quiescent
public import Idealize.ShloMosaic.Lib.SparseCore.Ops
public import Idealize.ShloMosaic.Lib.StableHlo.Run
public import Idealize.ShloMosaic.Lib.Pipeline.Regions
public import Idealize.ShloMosaic.Lib.Tactic
public import Idealize.ShloMosaic.Lib.ValueIdxCore

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
/-- The call runs sixteen tasks on each SparseCore. -/
theorem nSub_zero : (K (F := F)).nSub 0 = 16 := rfl
/-- The call runs on two SparseCores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are distinct and unscoped, and no task-shared buffer belongs to a SparseCore. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds inside the whole algebra. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The pipeline's rounds inside the whole algebra. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The gather call's buffers -/

/-- The table, the indices and the result of the gather call, as locations of device `d`. -/
abbrev tLoc (d : Dev nD) : Loc nD τ sig := (SparseCore.T d).loc main_v26
abbrev iLoc (d : Dev nD) : Loc nD τ sig := (SparseCore.T d).loc main_v25
abbrev oLoc (d : Dev nD) : Loc nD τ sig := (SparseCore.T d).loc main_v27

variable [FloatOps F]

abbrev tV : Memref sig .scVector .hbm S16384 .f32 := Memref.whole main_v26_scv
abbrev iV : Memref sig .scVector .hbm S12288 .i32 := Memref.whole main_v25_scv
abbrev oV : Memref sig .scVector .hbm S24576 .f32 := Memref.whole main_v27_scv
/-- A task's own buffers: the table, its indices, its results. -/
abbrev sT : Memref sig .scVector .vmem S16384 .f32 := Memref.whole cc1_scratch0
abbrev sI : Memref sig .scVector .vmem S384 .i32 := Memref.whole cc1_scratch1
abbrev sO : Memref sig .scVector .vmem S768 .f32 := Memref.whole cc1_scratch2

/-! ## What the tasks compute -/

/-- Word `n` of the table (the position read modulo the table's length, so that it is defined of every number). -/
def word (A : S16384.Idx → Elt F .f32) (n : ℕ) : Elt F .f32 := A (ix1 ⟨n % 16384, Nat.mod_lt _ (by decide)⟩)

/-- A word scaled by 1/64. -/
def scale (x : Elt F .f32) : Elt F .f32 := mulf (F := F) (φ := .f32) (s := S_) (fun _ => x) (fun _ => Scalar.ofBits .f32 0x3C800000#32) ix0

/-- Index `n` of the list of indices, read modulo its length. -/
def idxWord {n : ℕ} [NeZero n] (I : (⟨1, ![n]⟩ : Shape).Idx → BitVec 32) (k : ℕ) : ℕ := (I (ix1 (Fin.ofNat n k))).toNat

/-- What the staging buffer holds after the steps: at `2 k` and `2 k + 1`, the two table words from index `k` on, scaled. -/
def staged (A : S16384.Idx → Elt F .f32) (J : S384.Idx → BitVec 32) : S768.Idx → Elt F .f32 := fun k =>
  scale (word A (idxWord (n := 384) J ((k 0).val / 2) + (k 0).val % 2))

/-- What the call leaves in its result: at `2 k` and `2 k + 1`, the two table words from index `k` on, scaled. -/
def gathered (A : S16384.Idx → Elt F .f32) (I : S12288.Idx → BitVec 32) : S24576.Idx → Elt F .f32 := fun k =>
  scale (word A (idxWord (n := 12288) I ((k 0).val / 2) + (k 0).val % 2))

/-- Every index leaves room for the pair of words it names. -/
def InTable {n : ℕ} (I : (⟨1, ![n]⟩ : Shape).Idx → BitVec 32) : Prop := ∀ k, (I k).toNat + 1 < 16384

/-! ## A scatter at an element -/

omit [FloatOps F] in
/-- A fold of point updates at an index no update names leaves it. -/
theorem foldl_miss {ι α β : Type} (P : ι → α → Prop) [∀ i a, Decidable (P i a)] (y : ι → β) (l : List ι) (f : α → β) (a : α)
    (h : ∀ i ∈ l, ¬ P i a) : l.foldl (fun g i => fun j => if P i j then y i else g j) f a = f a := by
  induction l generalizing f with
  | nil => rfl
  | cons i l ih =>
    rw [List.foldl_cons, ih _ fun k hk => h k (List.mem_cons_of_mem _ hk)]
    exact if_neg (h i List.mem_cons_self)

omit [FloatOps F] in
/-- A fold of point updates at an index whose updates all store one value leaves that value. -/
theorem foldl_hit {ι α β : Type} (P : ι → α → Prop) [∀ i a, Decidable (P i a)] (y : ι → β) (l : List ι) (f : α → β) (a : α) (b : β)
    (h₀ : ∃ i ∈ l, P i a) (h : ∀ i ∈ l, P i a → y i = b) : l.foldl (fun g i => fun j => if P i j then y i else g j) f a = b := by
  induction l generalizing f with
  | nil => obtain ⟨i, hi, -⟩ := h₀; cases hi
  | cons i l ih =>
    rw [List.foldl_cons]
    by_cases hl : ∃ k ∈ l, P k a
    · exact ih _ hl fun k hk => h k (List.mem_cons_of_mem _ hk)
    · rw [foldl_miss P y l _ a fun k hk hp => hl ⟨k, hk, hp⟩]
      obtain ⟨k, hk, hp⟩ := h₀
      rcases List.mem_cons.mp hk with rfl | hk
      · exact (if_pos hp).trans (h _ List.mem_cons_self hp)
      · exact absurd ⟨k, hk, hp⟩ hl

/-- A sixteen-lane scatter into the staging buffer at an element no lane names leaves it. -/
theorem storeIdx_miss (f : Vec F S768 .f32) (p : IVec S16 32) (v : Vec F S16 .f32) (h : ∀ a x, ((![p] : Fin 1 → IVec S16 32) a x).toNat < S768.size a) (k : S768.Idx)
    (hk : ∀ x : Fin 16, (p (ix1 x)).toNat ≠ (k 0).val) : storeIdx f ![p] v (fun _ => 1#1) false h k = f k := by
  unfold storeIdx
  simp only [if_true, Bool.false_eq_true, if_false]
  refine foldl_miss (fun (i : Fin 16) (j : S768.Idx) => ∀ a, (j a).val = (idxAt ![p] h (Shape.ofLane (d := ![16]) i) a).val) _ _ f k ?_
  intro i _ hi
  refine hk i ?_
  rw [hi 0]
  show (p (ix1 i)).toNat = (p (Shape.ofLane (d := ![16]) i)).toNat
  congr 2
  exact (eq_ix1 (Shape.ofLane (d := ![16]) i)).symm ▸ rfl

/-- A sixteen-lane scatter into the staging buffer at an element some lane names, every lane that names it storing `b`, leaves `b`. -/
theorem storeIdx_hit (f : Vec F S768 .f32) (p : IVec S16 32) (v : Vec F S16 .f32) (h : ∀ a x, ((![p] : Fin 1 → IVec S16 32) a x).toNat < S768.size a) (k : S768.Idx)
    (x : Fin 16) (hx : (p (ix1 x)).toNat = (k 0).val) (hk : ∀ y : Fin 16, (p (ix1 y)).toNat = (k 0).val → y = x) :
    storeIdx f ![p] v (fun _ => 1#1) false h k = v (ix1 x) := by
  have lane : ∀ i : Fin 16, (Shape.ofLane (d := ![16]) i : S16.Idx) = ix1 i := fun i => by rw [eq_ix1 (Shape.ofLane i)]; rfl
  unfold storeIdx
  simp only [if_true, Bool.false_eq_true, if_false]
  refine foldl_hit (fun (i : Fin 16) (j : S768.Idx) => ∀ a, (j a).val = (idxAt ![p] h (Shape.ofLane (d := ![16]) i) a).val) _ _ f k _ ⟨x, List.mem_finRange _, ?_⟩ ?_
  · intro a
    obtain rfl : a = 0 := Subsingleton.elim _ _
    show (k 0).val = (p (Shape.ofLane (d := ![16]) x)).toNat
    rw [lane]; exact hx.symm
  · intro i _ hi
    have h0 := hi 0
    have : (k 0).val = (p (ix1 i)).toNat := by rw [h0]; show (p (Shape.ofLane (d := ![16]) i)).toNat = _; rw [lane]
    rw [hk i this.symm]
    show v (Shape.ofLane (d := ![16]) x) = _
    rw [lane]

/-! ## One step's vectors at a lane -/

open Cert.Proof.Steps

/-- The position lane `x` of step `j` stores its first word at. -/
theorem stepPos_toNat (j : ℕ) (hj : j < 24) (x : Fin 16) : (stepPos j (ix1 x)).toNat = 32 * j + 2 * x.val := by
  have hx := x.isLt
  show (BitVec.ofNat 32 (32 * j) + 2#32 * BitVec.ofNat 32 (0 * 16 + x.val)).toNat = _
  simp only [BitVec.toNat_add, BitVec.toNat_mul, BitVec.toNat_ofNat]
  omega

/-- The word after `v`'s, when there is one. -/
theorem next_toNat (v : IVec S16 32) (x : Fin 16) (h : (v (ix1 x)).toNat < 16384) : (next v (ix1 x)).toNat = (v (ix1 x)).toNat + 1 := by
  show (v (ix1 x) + 1#32).toNat = _
  simp only [BitVec.toNat_add, BitVec.toNat_ofNat]
  omega

/-- The two stores of step `j` carry the staging buffer from its first `32 j` words done to its first `32 (j + 1)`. -/
theorem staged_step (A : S16384.Idx → Elt F .f32) (J : S384.Idx → BitVec 32) (j : ℕ) (hj : j < 24) (v : IVec S16 32)
    (hJ : InTable (n := 384) J) (hv : ∀ x : Fin 16, (v (ix1 x)).toNat = idxWord (n := 384) J (16 * j + x.val))
    (g0 g1 : Vec F S16 .f32) (h0 : ∀ x : Fin 16, g0 (ix1 x) = word A (v (ix1 x)).toNat) (h1 : ∀ x : Fin 16, g1 (ix1 x) = word A ((next v) (ix1 x)).toNat)
    (f : Vec F S768 .f32) (hf : ∀ k : S768.Idx, (k 0).val < 32 * j → f k = staged A J k) (ha hb) (k : S768.Idx) (hk : (k 0).val < 32 * (j + 1)) :
    storeIdx (storeIdx f ![stepPos j] (scaled g0) (fun _ => 1#1) false ha) ![next (stepPos j)] (scaled g1) (fun _ => 1#1) false hb k = staged A J k := by
  have hp := stepPos_toNat j hj
  have hn : ∀ x : Fin 16, (next (stepPos j) (ix1 x)).toNat = 32 * j + 2 * x.val + 1 := fun x => by
    rw [next_toNat _ _ (by rw [hp]; omega), hp]
  by_cases hlt : (k 0).val < 32 * j
  · rw [storeIdx_miss _ _ _ _ _ fun x => by rw [hn]; omega, storeIdx_miss _ _ _ _ _ fun x => by rw [hp]; omega]
    exact hf k hlt
  · have hr : ((k 0).val - 32 * j) / 2 < 16 := by omega
    have hvx := hv ⟨((k 0).val - 32 * j) / 2, hr⟩
    have hq : (k 0).val / 2 = 16 * j + ((k 0).val - 32 * j) / 2 := by omega
    have hlt' : (v (ix1 ⟨((k 0).val - 32 * j) / 2, hr⟩)).toNat < 16384 := by
      rw [hvx]; exact (Nat.le_add_right _ 1).trans_lt (hJ _)
    rcases Nat.mod_two_eq_zero_or_one ((k 0).val) with he | ho
    · rw [storeIdx_miss _ _ _ _ _ fun x => by rw [hn]; omega,
        storeIdx_hit _ _ _ _ _ ⟨((k 0).val - 32 * j) / 2, hr⟩ (by rw [hp]; show 32 * j + 2 * (((k 0).val - 32 * j) / 2) = _; omega)
          (fun y hy => by rw [hp] at hy; apply Fin.ext; show y.val = ((k 0).val - 32 * j) / 2; omega)]
      show scale (g0 (ix1 ⟨((k 0).val - 32 * j) / 2, hr⟩)) = scale (word A (idxWord (n := 384) J ((k 0).val / 2) + (k 0).val % 2))
      rw [h0, hvx, he, hq]; rfl
    · rw [storeIdx_hit _ _ _ _ _ ⟨((k 0).val - 32 * j) / 2, hr⟩ (by rw [hn]; show 32 * j + 2 * (((k 0).val - 32 * j) / 2) + 1 = _; omega)
          (fun y hy => by rw [hn] at hy; apply Fin.ext; show y.val = ((k 0).val - 32 * j) / 2; omega)]
      show scale (g1 (ix1 ⟨((k 0).val - 32 * j) / 2, hr⟩)) = scale (word A (idxWord (n := 384) J ((k 0).val / 2) + (k 0).val % 2))
      rw [h1, next_toNat _ _ hlt', hvx, ho, hq]

end Cert.Proof

end
-- ==== Proof.Host.lean ====
/-
  The kernel's @main as three lists of host operations around its two calls, and what the lists leave: the first result
  and the table are the pipelined call's array reshaped, the list of indices is a function of the sixth argument.
-/
module

public import proofs.«01_k».proof.Proof.Setup

@[expose] public section

noncomputable section

namespace Cert.Proof

open Cert.KernelIdeal Cert.KernelIdeal.Gen
open Idealize.ShloMosaic Idealize.ShloMosaic.TcCoe Idealize.SL.Sem Idealize.ShloMosaic.StableHlo

variable {F : FTy → Type} [FloatOps F]

/-- The two reshapes before the pipelined call. -/
abbrev ops0 : List (HloOp τ sig (Elt F)) :=
  [ reshape main_arg1 main_v0 (rfl : (.f32 : EltTy) = .f32) shapeCasts_S2x128x64x64_S2x128x4096,
    reshape main_arg0 main_v1 (rfl : (.f32 : EltTy) = .f32) shapeCasts_S2x128x64x64_S2x128x4096 ]

/-- The host operations between the two calls: the first result, the flat indices and the table. -/
abbrev ops1 : List (HloOp τ sig (Elt F)) :=
  [ reshape main_v2 main_v3 (rfl : (.f32 : EltTy) = .f32) shapeCasts_S2x4096x2_S2x64x64x2,
    nullary main_cst (constant S_ .f32 0x42800000#32),
    unary main_cst main_v4 (broadcastInDim S2x50x120x2 ![] bcast_S_S2x50x120x2 : (⟨S_, .f32⟩ : BufTy).Contents (Elt F) → (⟨S2x50x120x2, .f32⟩ : BufTy).Contents (Elt F)),
    binary main_arg5 main_v4 main_v5 (mulf : (⟨S2x50x120x2, .f32⟩ : BufTy).Contents (Elt F) → (⟨S2x50x120x2, .f32⟩ : BufTy).Contents (Elt F) → (⟨S2x50x120x2, .f32⟩ : BufTy).Contents (Elt F)),
    TRef.unary (.of (T := ⟨S2x50x120x2, .f32⟩) main_v5) (.of (T := ⟨S2x50x120x2, .f32⟩) main_v6) Host.roundeven,
    unary main_v6 main_v7 (fptosi 32 : (⟨S2x50x120x2, .f32⟩ : BufTy).Contents (Elt F) → (⟨S2x50x120x2, .i32⟩ : BufTy).Contents (Elt F)),
    nullary main_c (constantI S_ 32 0#32),
    nullary main_c_0 (constantI S_ 32 63#32),
    TRef.unary (.of (T := ⟨S_, .i32⟩) main_c) (.of (T := ⟨S_, .i32⟩) main_call1_v0) id,
    TRef.unary (.of (T := ⟨S_, .i32⟩) main_call1_v0) (.of (T := ⟨S2x50x120x2, .i32⟩) main_call1_v1) (broadcastInDim S2x50x120x2 ![] bcast_S_S2x50x120x2),
    TRef.binary (.of (T := ⟨S2x50x120x2, .i32⟩) main_call1_v1) (.of (T := ⟨S2x50x120x2, .i32⟩) main_v7) (.of (T := ⟨S2x50x120x2, .i32⟩) main_call1_v2) maxsi,
    TRef.unary (.of (T := ⟨S_, .i32⟩) main_c_0) (.of (T := ⟨S_, .i32⟩) main_call1_v3) id,
    TRef.unary (.of (T := ⟨S_, .i32⟩) main_call1_v3) (.of (T := ⟨S2x50x120x2, .i32⟩) main_call1_v4) (broadcastInDim S2x50x120x2 ![] bcast_S_S2x50x120x2),
    TRef.binary (.of (T := ⟨S2x50x120x2, .i32⟩) main_call1_v4) (.of (T := ⟨S2x50x120x2, .i32⟩) main_call1_v2) (.of (T := ⟨S2x50x120x2, .i32⟩) main_v8) minsi,
    nullary main_v9 (iotaInDim S2 32 0),
    unary main_v9 main_v10 (broadcastInDim S2x1x1 ![0] bcast_S2_S2x1x1_0 : (⟨S2, .i32⟩ : BufTy).Contents (Elt F) → (⟨S2x1x1, .i32⟩ : BufTy).Contents (Elt F)),
    nullary main_c_1 (constantI S_ 32 4096#32),
    unary main_c_1 main_v11 (broadcastInDim S2x1x1 ![] bcast_S_S2x1x1 : (⟨S_, .i32⟩ : BufTy).Contents (Elt F) → (⟨S2x1x1, .i32⟩ : BufTy).Contents (Elt F)),
    binary main_v10 main_v11 main_v12 (muli : (⟨S2x1x1, .i32⟩ : BufTy).Contents (Elt F) → (⟨S2x1x1, .i32⟩ : BufTy).Contents (Elt F) → (⟨S2x1x1, .i32⟩ : BufTy).Contents (Elt F)),
    unary main_v8 main_v13 ((extractStridedSlice S2x50x120x1 ![0, 0, 0, 0] · slices_S2x50x120x2_S2x50x120x1_0_0_0_0) : (⟨S2x50x120x2, .i32⟩ : BufTy).Contents (Elt F) → (⟨S2x50x120x1, .i32⟩ : BufTy).Contents (Elt F)),
    reshape main_v13 main_v14 (rfl : (.i32 : EltTy) = .i32) shapeCasts_S2x50x120x1_S2x50x120,
    nullary main_c_2 (constantI S_ 32 64#32),
    unary main_c_2 main_v15 (broadcastInDim S2x50x120 ![] bcast_S_S2x50x120 : (⟨S_, .i32⟩ : BufTy).Contents (Elt F) → (⟨S2x50x120, .i32⟩ : BufTy).Contents (Elt F)),
    binary main_v14 main_v15 main_v16 (muli : (⟨S2x50x120, .i32⟩ : BufTy).Contents (Elt F) → (⟨S2x50x120, .i32⟩ : BufTy).Contents (Elt F) → (⟨S2x50x120, .i32⟩ : BufTy).Contents (Elt F)),
    unary main_v12 main_v17 (broadcastInDim S2x50x120 ![0, 1, 2] bcast_S2x1x1_S2x50x120_0_1_2 : (⟨S2x1x1, .i32⟩ : BufTy).Contents (Elt F) → (⟨S2x50x120, .i32⟩ : BufTy).Contents (Elt F)),
    binary main_v17 main_v16 main_v18 (addi : (⟨S2x50x120, .i32⟩ : BufTy).Contents (Elt F) → (⟨S2x50x120, .i32⟩ : BufTy).Contents (Elt F) → (⟨S2x50x120, .i32⟩ : BufTy).Contents (Elt F)),
    unary main_v8 main_v19 ((extractStridedSlice S2x50x120x1 ![0, 0, 0, 1] · slices_S2x50x120x2_S2x50x120x1_0_0_0_1) : (⟨S2x50x120x2, .i32⟩ : BufTy).Contents (Elt F) → (⟨S2x50x120x1, .i32⟩ : BufTy).Contents (Elt F)),
    reshape main_v19 main_v20 (rfl : (.i32 : EltTy) = .i32) shapeCasts_S2x50x120x1_S2x50x120,
    binary main_v18 main_v20 main_v21 (addi : (⟨S2x50x120, .i32⟩ : BufTy).Contents (Elt F) → (⟨S2x50x120, .i32⟩ : BufTy).Contents (Elt F) → (⟨S2x50x120, .i32⟩ : BufTy).Contents (Elt F)),
    nullary main_c_3 (constantI S_ 32 2#32),
    unary main_c_3 main_v22 (broadcastInDim S2x50x120 ![] bcast_S_S2x50x120 : (⟨S_, .i32⟩ : BufTy).Contents (Elt F) → (⟨S2x50x120, .i32⟩ : BufTy).Contents (Elt F)),
    binary main_v21 main_v22 main_v23 (muli : (⟨S2x50x120, .i32⟩ : BufTy).Contents (Elt F) → (⟨S2x50x120, .i32⟩ : BufTy).Contents (Elt F) → (⟨S2x50x120, .i32⟩ : BufTy).Contents (Elt F)),
    reshape main_v23 main_v24 (rfl : (.i32 : EltTy) = .i32) shapeCasts_S2x50x120_S12000,
    nullary main_c_4 (constantI S_ 32 0#32),
    TRef.unary (.of (T := ⟨S_, .i32⟩) main_c_4) (.of (T := ⟨S_, .i32⟩) main_call2_v0) id,
    TRef.binary (.of (T := ⟨S12000, .i32⟩) main_v24) (.of (T := ⟨S_, .i32⟩) main_call2_v0) (.of (T := ⟨S12288, .i32⟩) main_v25) (fun x v => pad S12288 ![0] ![288] ![0] x v pads_S12000_S12288_02880 h_S_),
    reshape main_v2 main_v26 (rfl : (.f32 : EltTy) = .f32) shapeCasts_S2x4096x2_S16384 ]

/-- The host operations after the gather call: the second result. -/
abbrev ops2 : List (HloOp τ sig (Elt F)) :=
  [ unary main_v27 main_v28 ((extractStridedSlice S24000 ![0] · slices_S24576_S24000_0) : (⟨S24576, .f32⟩ : BufTy).Contents (Elt F) → (⟨S24000, .f32⟩ : BufTy).Contents (Elt F)),
    reshape main_v28 main_v29 (rfl : (.f32 : EltTy) = .f32) shapeCasts_S24000_S2x50x120x2 ]

/-- @main is the three lists around the two calls. -/
theorem main_eq (d : Dev nD) : main (F := F) d
    = seqK ops0 (Prog.lift (.customCall (SparseCore.inner (Pipeline.entry 0)) ()) >>= fun _ =>
        seqK ops1 ((sc (F := F)).run d 0 >>= fun _ => seqK ops2 (pure ⟨⟩))) := rfl

/-! ## What the lists leave -/

/-- The integer grid position of every requested point: its coordinates times 64, rounded, and clipped to 0 … 63. -/
def gridIdx (x : S2x50x120x2.Idx → Elt F .f32) : S2x50x120x2.Idx → BitVec 32 :=
  minsi (broadcastInDim S2x50x120x2 ![] bcast_S_S2x50x120x2 (constantI S_ 32 63#32))
    (maxsi (broadcastInDim S2x50x120x2 ![] bcast_S_S2x50x120x2 (constantI S_ 32 0#32))
      (fptosi (F := F) 32 (Host.roundeven (mulf x (broadcastInDim S2x50x120x2 ![] bcast_S_S2x50x120x2 (constant S_ .f32 0x42800000#32))))))

/-- The table position of every requested point, from its grid position: `(4096 b + 64 i + j) * 2`. -/
def flatIdx (g : S2x50x120x2.Idx → BitVec 32) : S2x50x120.Idx → BitVec 32 :=
  muli (addi (addi (broadcastInDim S2x50x120 ![0, 1, 2] bcast_S2x1x1_S2x50x120_0_1_2
      (muli (broadcastInDim S2x1x1 ![0] bcast_S2_S2x1x1_0 (iotaInDim S2 32 0)) (broadcastInDim S2x1x1 ![] bcast_S_S2x1x1 (constantI S_ 32 4096#32))))
      (muli (shapeCast S2x50x120 (extractStridedSlice S2x50x120x1 ![0, 0, 0, 0] g slices_S2x50x120x2_S2x50x120x1_0_0_0_0) shapeCasts_S2x50x120x1_S2x50x120)
        (broadcastInDim S2x50x120 ![] bcast_S_S2x50x120 (constantI S_ 32 64#32))))
      (shapeCast S2x50x120 (extractStridedSlice S2x50x120x1 ![0, 0, 0, 1] g slices_S2x50x120x2_S2x50x120x1_0_0_0_1) shapeCasts_S2x50x120x1_S2x50x120))
    (broadcastInDim S2x50x120 ![] bcast_S_S2x50x120 (constantI S_ 32 2#32))

/-- The padded list of table positions. -/
def indices (x : S2x50x120x2.Idx → Elt F .f32) : S12288.Idx → BitVec 32 :=
  pad S12288 ![0] ![288] ![0] (shapeCast S12000 (flatIdx (gridIdx x)) shapeCasts_S2x50x120_S12000) (constantI S_ 32 0#32) pads_S12000_S12288_02880 h_S_

variable (V : Valuation τ sig (Elt F))

/-- The first list leaves the second argument reshaped in `main_v0`. -/
theorem after0_v0 : after ops0 V main_v0 = shapeCast S2x128x4096 (V main_arg1) shapeCasts_S2x128x64x64_S2x128x4096 := by
  simp only [ops0]; after_results_simp <;> rfl

/-- The first list leaves the first argument reshaped in `main_v1`. -/
theorem after0_v1 : after ops0 V main_v1 = shapeCast S2x128x4096 (V main_arg0) shapeCasts_S2x128x64x64_S2x128x4096 := by
  simp only [ops0]; after_results_simp <;> rfl

/-- The second list leaves the first result: the pipelined call's array reshaped. -/
theorem after1_v3 : after ops1 V main_v3 = shapeCast S2x64x64x2 (V main_v2) shapeCasts_S2x4096x2_S2x64x64x2 := by
  simp only [ops1, TRef.binary, TRef.nullary, TRef.ternary, TRef.unary, TRef.toBuf, TRef.ofBuf, cast_eq]; after_results_simp <;> rfl

/-- The second list leaves the table: the pipelined call's array flattened. -/
theorem after1_v26 : after ops1 V main_v26 = shapeCast S16384 (V main_v2) shapeCasts_S2x4096x2_S16384 := by
  simp only [ops1, TRef.binary, TRef.nullary, TRef.ternary, TRef.unary, TRef.toBuf, TRef.ofBuf, cast_eq]; after_results_simp <;> rfl

/-- The second list leaves the list of indices, a function of the sixth argument. -/
theorem after1_v25 : after ops1 V main_v25 = indices (F := F) (V main_arg5) := by
  simp only [ops1, TRef.binary, TRef.nullary, TRef.ternary, TRef.unary, TRef.toBuf, TRef.ofBuf, cast_eq]; after_results_simp <;> rfl

/-- The third list leaves the second result: the gathered words, the padding dropped. -/
theorem after2_v29 : after ops2 V main_v29
    = shapeCast S2x50x120x2 (extractStridedSlice S24000 ![0] (V main_v27) slices_S24576_S24000_0) shapeCasts_S24000_S2x50x120x2 := by
  simp only [ops2]; after_results_simp <;> rfl

end Cert.Proof

end
-- ==== Proof.HostFacts.lean ====
/-
  What the launch asks of the three lists of host operations: each touches unscoped buffers only and allocates none, the
  arguments are written by none of them, and every index the second list computes leaves room in the table.
-/
module

public import proofs.«01_k».proof.Proof.Host
public import Idealize.ShloMosaic.Lib.Pipeline.Frame

@[expose] public section

noncomputable section

namespace Cert.Proof

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]

/-! ## Buffers -/

theorem ops0_sub : ∀ op ∈ ops0 (F := F), op.bufs ⊆ Pipeline.ucRefs τ sig := fun op h => Pipeline.sub_ucRefs op <| by
  revert op; rw [← List.forall_iff_forall_mem]
  exact ⟨reshape_bufs_sub .., reshape_bufs_sub ..⟩

theorem ops1_sub : ∀ op ∈ ops1 (F := F), op.bufs ⊆ Pipeline.ucRefs τ sig := fun op h => Pipeline.sub_ucRefs op <| by
  revert op; rw [← List.forall_iff_forall_mem]
  refine ⟨reshape_bufs_sub .., nullary_bufs_sub .., unary_bufs_sub .., binary_bufs_sub .., unary_bufs_sub .., unary_bufs_sub ..,
    nullary_bufs_sub .., nullary_bufs_sub .., unary_bufs_sub .., unary_bufs_sub .., binary_bufs_sub .., unary_bufs_sub .., unary_bufs_sub .., binary_bufs_sub ..,
    nullary_bufs_sub .., unary_bufs_sub .., nullary_bufs_sub .., unary_bufs_sub .., binary_bufs_sub .., unary_bufs_sub .., reshape_bufs_sub ..,
    nullary_bufs_sub .., unary_bufs_sub .., binary_bufs_sub .., unary_bufs_sub .., binary_bufs_sub .., unary_bufs_sub .., reshape_bufs_sub .., binary_bufs_sub ..,
    nullary_bufs_sub .., unary_bufs_sub .., binary_bufs_sub .., reshape_bufs_sub .., nullary_bufs_sub .., unary_bufs_sub .., binary_bufs_sub .., reshape_bufs_sub ..⟩

theorem ops0_fresh : ∀ op ∈ ops0 (F := F), op.fresh = ∅ := List.forall_iff_forall_mem.1 (forall_fresh_of_map rfl)
theorem ops1_fresh : ∀ op ∈ ops1 (F := F), op.fresh = ∅ := List.forall_iff_forall_mem.1 (forall_fresh_of_map rfl)
theorem ops2_fresh : ∀ op ∈ ops2 (F := F), op.fresh = ∅ := List.forall_iff_forall_mem.1 (forall_fresh_of_map rfl)

/-- What the lists write. -/
abbrev writes0 : List (Ref sig .tc) := [main_v0, main_v1]
abbrev writes1 : List (Ref sig .tc) := [main_v3, main_cst, main_v4, main_v5, main_v6, main_v7, main_c, main_c_0, main_call1_v0, main_call1_v1, main_call1_v2,
  main_call1_v3, main_call1_v4, main_v8, main_v9, main_v10, main_c_1, main_v11, main_v12, main_v13, main_v14, main_c_2, main_v15, main_v16, main_v17, main_v18,
  main_v19, main_v20, main_v21, main_c_3, main_v22, main_v23, main_v24, main_c_4, main_call2_v0, main_v25, main_v26]
abbrev writes2 : List (Ref sig .tc) := [main_v28, main_v29]

/-- A buffer the first list does not write keeps its contents. -/
theorem after0_keep (V : Valuation τ sig (Elt F)) (r : Ref sig .tc) (h : r ∉ writes0) : after ops0 V (Proc.devRef .tc r) = V (Proc.devRef .tc r) :=
  after_of_writes_sub ops0 V (forall_writes_sub_of_map rfl) h
/-- A buffer the second list does not write keeps its contents. -/
theorem after1_keep (V : Valuation τ sig (Elt F)) (r : Ref sig .tc) (h : r ∉ writes1) : after ops1 V (Proc.devRef .tc r) = V (Proc.devRef .tc r) :=
  after_of_writes_sub ops1 V (forall_writes_sub_of_map rfl) h
/-- A buffer the third list does not write keeps its contents. -/
theorem after2_keep (V : Valuation τ sig (Elt F)) (r : Ref sig .tc) (h : r ∉ writes2) : after ops2 V (Proc.devRef .tc r) = V (Proc.devRef .tc r) :=
  after_of_writes_sub ops2 V (forall_writes_sub_of_map rfl) h

/-! ## The indices -/

/-- A word clipped to 0 … 63 is at most 63. -/
theorem clip_le (y : BitVec 32) : (IntOp.minsi 63#32 (IntOp.maxsi 0#32 y)).toNat ≤ 63 := by
  simp only [IntOp.minsi, IntOp.maxsi, BitVec.slt_eq_decide, decide_eq_true_eq, BitVec.toInt_eq_toNat_cond]
  split_ifs <;> simp_all <;> omega

theorem gridIdx_le (x : S2x50x120x2.Idx → Elt F .f32) (i : S2x50x120x2.Idx) : (gridIdx (F := F) x i).toNat ≤ 63 := clip_le _

/-- The arithmetic of a table position, on words that name a batch and a grid position. -/
theorem flat_toNat (b i j : BitVec 32) (hb : b.toNat < 2) (hi : i.toNat ≤ 63) (hj : j.toNat ≤ 63) :
    (((b * 4096#32 + i * 64#32) + j) * 2#32).toNat = (b.toNat * 4096 + i.toNat * 64 + j.toNat) * 2 := by
  simp only [BitVec.toNat_add, BitVec.toNat_mul, BitVec.toNat_ofNat]
  omega

/-- A reshape at an index is the operand at the index of the same row-major position. -/
theorem shapeCast_at {s t : Shape} {α : Type} (x : s.Idx → α) (h : s.ShapeCasts t) (j : t.Idx) (i : s.Idx)
    (e : (s.rowMajor i : ℕ) = t.rowMajor j) : shapeCast t x h j = x i :=
  congrArg x (Shape.reshapeEquiv_eq_of_rowMajor h e)

/-- A requested point's table position, as a number. -/
theorem flatIdx_toNat (g : S2x50x120x2.Idx → BitVec 32) (hg : ∀ i, (g i).toNat ≤ 63) (b : Fin 2) (n : Fin 50) (k : Fin 120) :
    (flatIdx g (ix3 b n k)).toNat = (b.val * 4096 + (g (ix4 b n k 0)).toNat * 64 + (g (ix4 b n k 1)).toNat) * 2 := by
  have e0 : shapeCast S2x50x120 (extractStridedSlice S2x50x120x1 ![0, 0, 0, 0] g slices_S2x50x120x2_S2x50x120x1_0_0_0_0) shapeCasts_S2x50x120x1_S2x50x120 (ix3 b n k)
      = g (ix4 b n k 0) :=
    (shapeCast_at _ _ _ (ix4 b n k 0) (by rw [Shape.rowMajor_val_four, Shape.rowMajor_val_three]; exact (Nat.mul_one _))).trans
      (congrArg g (funext fun a => by fin_cases a <;> exact Fin.ext (Nat.zero_add _)))
  have e1 : shapeCast S2x50x120 (extractStridedSlice S2x50x120x1 ![0, 0, 0, 1] g slices_S2x50x120x2_S2x50x120x1_0_0_0_1) shapeCasts_S2x50x120x1_S2x50x120 (ix3 b n k)
      = g (ix4 b n k 1) :=
    (shapeCast_at _ _ _ (ix4 b n k 0) (by rw [Shape.rowMajor_val_four, Shape.rowMajor_val_three]; exact (Nat.mul_one _))).trans
      (congrArg g (funext fun a => by fin_cases a <;> first | exact Fin.ext (Nat.zero_add _) | rfl))
  have hb : (BitVec.ofNat 32 b.val).toNat = b.val := by rw [BitVec.toNat_ofNat]; have := b.isLt; omega
  refine (congrArg BitVec.toNat (show _ = ((BitVec.ofNat 32 b.val * 4096#32 + g (ix4 b n k 0) * 64#32) + g (ix4 b n k 1)) * 2#32 from ?_)).trans ?_
  · rw [← e0, ← e1]; rfl
  · rw [flat_toNat _ _ _ (by rw [hb]; exact b.isLt) (hg _) (hg _), hb]

/-- Every table position leaves room for the pair of words it names. -/
theorem flatIdx_lt (g : S2x50x120x2.Idx → BitVec 32) (hg : ∀ i, (g i).toNat ≤ 63) (k : S2x50x120.Idx) : (flatIdx g k).toNat + 1 < 16384 := by
  obtain ⟨b, n, p, rfl⟩ : ∃ (b : Fin 2) (n : Fin 50) (p : Fin 120), k = ix3 b n p := ⟨_, _, _, eq_ix3 k⟩
  rw [flatIdx_toNat g hg]
  have h0 := hg (ix4 b n p 0)
  have h1 := hg (ix4 b n p 1)
  have := b.isLt
  omega

/-- The padded list's every word leaves room in the table. -/
theorem indices_inTable (x : S2x50x120x2.Idx → Elt F .f32) : InTable (n := 12288) (indices (F := F) x) := fun k => by
  unfold indices pad
  split
  · exact flatIdx_lt _ (gridIdx_le x) _
  · exact (by decide : (0#32 : BitVec 32).toNat + 1 < 16384)

end Cert.Proof

end
-- ==== Proof.Tile.lean ====
/-
  One task of the gather call at a symbolic SparseCore and subcore: from a share of the table, its own indices and its
  own words of the result, it leaves its words of the result at the gathered table words, scaled.
-/
module

public import proofs.«01_k».proof.Proof.Setup

@[expose] public section

noncomputable section

namespace Cert.Proof

open Cert.KernelIdeal Cert.KernelIdeal.Gen Cert.Proof.Steps

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

variable (d : Dev nD) (L : grid1.Coords)

/-- The SparseCore and the subcore of a task, among the chip's. -/
abbrev cV (L : grid1.Coords) : Fin τ.nSC := (L 0).castLE hcore1
abbrev jV (L : grid1.Coords) : Fin τ.nSub := (L 1).castLE hsub1

/-- The cells the task's three copies signal. -/
abbrev cA (d : Dev nD) (c : Fin τ.nSC) (i : Fin τ.nSub) : GSem nD τ sig := (V d c i, .dma cc1_scoped0.sem)
abbrev cX (d : Dev nD) (c : Fin τ.nSC) (i : Fin τ.nSub) : GSem nD τ sig := (V d c i, .dma cc1_scoped1.sem)
abbrev cB (d : Dev nD) (c : Fin τ.nSC) (i : Fin τ.nSub) : GSem nD τ sig := (V d c i, .dma cc1_scoped2.sem)

/-! ## The task's rows -/

abbrev iRowK (L : grid1.Coords) : Memref sig .scVector .hbm S384 .i32 :=
  (Memref.whole main_v25_scv : Memref sig .scVector .hbm S12288 .i32).slice (Rect.unit (s := S12288) (k1_off1 L) S384.size (k1_off1_inb L)) (fun _ => rfl)
abbrev oRowK (L : grid1.Coords) : Memref sig .scVector .hbm S768 .f32 :=
  (Memref.whole main_v27_scv : Memref sig .scVector .hbm S24576 .f32).slice (Rect.unit (s := S24576) (k1_off2 L) S768.size (k1_off2_inb L)) (fun _ => rfl)

/-- The elements of the index list, and of the result, that task `(c, s)` works at. -/
def iSet (c s : ℕ) : Finset S12288.Idx := Finset.univ.filter fun k => (k 0).val / 384 = s * 2 + c
def oSet (c s : ℕ) : Finset S24576.Idx := Finset.univ.filter fun k => (k 0).val / 768 = s * 2 + c

omit [FloatOps F] in
theorem off1_eq : k1_off1 L 0 = ((L 1).val * 2 + (L 0).val) * 384 := by
  have h0 : (L 0).val < 2 := (L 0).isLt
  have h1 : (L 1).val < 16 := (L 1).isLt
  show ((BitVec.ofNat 32 (L 1).val * 2#32 + BitVec.ofNat 32 (L 0).val) * 384#32).toNat = _
  simp only [BitVec.toNat_add, BitVec.toNat_mul, BitVec.toNat_ofNat]
  omega
omit [FloatOps F] in
theorem off2_eq : k1_off2 L 0 = ((L 1).val * 2 + (L 0).val) * 768 := by
  have h0 : (L 0).val < 2 := (L 0).isLt
  have h1 : (L 1).val < 16 := (L 1).isLt
  show ((BitVec.ofNat 32 (L 1).val * 2#32 + BitVec.ofNat 32 (L 0).val) * 2#32 * 384#32).toNat = _
  simp only [BitVec.toNat_add, BitVec.toNat_mul, BitVec.toNat_ofNat]
  omega

omit [FloatOps F] in
theorem set_iRowK : (iRowK L).view.set = iSet (L 0).val (L 1).val := by
  show ((View.whole main_v25_scv).slice (Rect.unit (s := S12288) (k1_off1 L) S384.size (k1_off1_inb L))).set = _
  rw [View.set_slice_whole]
  ext k
  unfold iSet
  rw [Rect.mem_set_unit, Finset.mem_filter]
  have e := off1_eq L
  constructor
  · intro h
    have h := h 0
    rw [e] at h
    change _ ∧ (k 0).val < _ + 384 at h
    exact ⟨Finset.mem_univ _, by omega⟩
  · intro h a
    obtain rfl : a = 0 := Subsingleton.elim (α := Fin 1) _ _
    rw [e]
    show _ ∧ (k 0).val < _ + 384
    have := h.2
    omega
omit [FloatOps F] in
theorem set_oRowK : (oRowK L).view.set = oSet (L 0).val (L 1).val := by
  show ((View.whole main_v27_scv).slice (Rect.unit (s := S24576) (k1_off2 L) S768.size (k1_off2_inb L))).set = _
  rw [View.set_slice_whole]
  ext k
  unfold oSet
  rw [Rect.mem_set_unit, Finset.mem_filter]
  have e := off2_eq L
  constructor
  · intro h
    have h := h 0
    rw [e] at h
    change _ ∧ (k 0).val < _ + 768 at h
    exact ⟨Finset.mem_univ _, by omega⟩
  · intro h a
    obtain rfl : a = 0 := Subsingleton.elim (α := Fin 1) _ _
    rw [e]
    show _ ∧ (k 0).val < _ + 768
    have := h.2
    omega

/-- The indices the task fetches. -/
def fetched (I : S12288.Idx → BitVec 32) (L : grid1.Coords) : S384.Idx → BitVec 32 :=
  (iRowK L).view.read (Elt F) I

omit [FloatOps F] in
/-- Word `k` of the fetched indices is word `384 w + k` of the list, `w` the task's number. -/
theorem fetched_word (I : S12288.Idx → BitVec 32) (k : ℕ) (hk : k < 384) :
    idxWord (n := 384) (fetched (F := F) I L) k = idxWord (n := 12288) I (((L 1).val * 2 + (L 0).val) * 384 + k) := by
  have h0 : (L 0).val < 2 := (L 0).isLt
  have h1 : (L 1).val < 16 := (L 1).isLt
  unfold idxWord fetched
  show (I ((Rect.unit (s := S12288) (k1_off1 L) S384.size (k1_off1_inb L)).emb (ix1 (Fin.ofNat 384 k)))).toNat = _
  congr 2
  rw [eq_ix1 ((Rect.unit (s := S12288) (k1_off1 L) S384.size (k1_off1_inb L)).emb (ix1 (Fin.ofNat 384 k)))]
  congr 1
  apply Fin.ext
  show k1_off1 L 0 + 1 * (Fin.ofNat 384 k).val = (Fin.ofNat 12288 _).val
  rw [off1_eq]
  simp only [Fin.ofNat]
  omega

omit [FloatOps F] in
theorem fetched_inTable (I : S12288.Idx → BitVec 32) (hI : InTable (n := 12288) I) : InTable (n := 384) (fetched (F := F) I L) := fun _ => hI _

/-- The staged words written out are the gathered words, on the task's elements. -/
theorem written (A : S16384.Idx → Elt F .f32) (I : S12288.Idx → BitVec 32) (f : Buf (Elt F) ((oRowK L).view.loc (V d (cV L) (jV L)))) :
    ∀ k ∈ (oRowK L).view.set, (oRowK L).view.write (Elt F) f (staged A (fetched (F := F) I L)) Finset.univ k = gathered A I k := by
  intro k hk
  have h0 : (L 0).val < 2 := (L 0).isLt
  have h1 : (L 1).val < 16 := (L 1).isLt
  obtain ⟨j, -, rfl⟩ := Finset.mem_map.mp hk
  refine (View.write_emb_of_mem (v := (oRowK L).view) (Val := Elt F) f (staged A (fetched (F := F) I L)) (M := Finset.univ) (x := j) (Finset.mem_univ _)).trans ?_
  show staged A (fetched (F := F) I L) j = gathered A I ((Rect.unit (s := S24576) (k1_off2 L) S768.size (k1_off2_inb L)).emb j)
  unfold staged gathered
  have e : ((Rect.unit (s := S24576) (k1_off2 L) S768.size (k1_off2_inb L)).emb j 0).val = ((L 1).val * 2 + (L 0).val) * 768 + (j 0).val := by
    show k1_off2 L 0 + 1 * (j 0).val = _
    rw [off2_eq]; omega
  have hj : (j 0).val < 768 := (j 0).isLt
  rw [e, fetched_word L I _ (by omega)]
  congr 2
  congr 1
  · congr 1; omega
  · omega

/-! ## The pieces in the body's spelling -/

omit [FloatOps F] in
theorem pts_iRowK (f : Buf (Elt F) (iLoc d)) :
    ((iRowK L).view.loc (V d (cV L) (jV L)) ↦[(iRowK L).view.set]{fullShare} f : sProp 𝕄) = iLoc d ↦[iSet (L 0).val (L 1).val]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oSet (L 0).val (L 1).val]{fullShare} f := by
  rw [set_oRowK]
omit [FloatOps F] in
theorem pts_tV (q : PosShare TreeShare) (f : Buf (Elt F) (tLoc d)) :
    ((tV : Memref sig .scVector .hbm S16384 .f32).view.loc (V d (cV L) (jV L)) ↦[(tV : Memref sig .scVector .hbm S16384 .f32).view.set]{q} f : sProp 𝕄) = tLoc d ↦{q} f := by
  simp only [Memref.view_whole, View.set_whole]
omit [FloatOps F] in
theorem pts_sT (f : Buf (Elt F) ((V d (cV L) (jV L)).loc cc1_scratch0)) :
    ((sT : Memref sig .scVector .vmem S16384 .f32).view.loc (V d (cV L) (jV L)) ↦[(sT : Memref sig .scVector .vmem S16384 .f32).view.set]{fullShare} f : sProp 𝕄)
      = (V d (cV L) (jV L)).loc cc1_scratch0 ↦{fullShare} f := by
  simp only [Memref.view_whole, View.set_whole]
omit [FloatOps F] in
theorem pts_sT_access (f : Buf (Elt F) ((V d (cV L) (jV L)).loc cc1_scratch0)) :
    (((sT : Memref sig .scVector .vmem S16384 .f32).access (.whole S16384)).loc (V d (cV L) (jV L)) ↦{fullShare} f : sProp 𝕄) = (V d (cV L) (jV L)).loc cc1_scratch0 ↦{fullShare} f := rfl
omit [FloatOps F] in
theorem pts_sI (f : Buf (Elt F) ((V d (cV L) (jV L)).loc cc1_scratch1)) :
    ((sI : Memref sig .scVector .vmem S384 .i32).view.loc (V d (cV L) (jV L)) ↦[(sI : Memref sig .scVector .vmem S384 .i32).view.set]{fullShare} f : sProp 𝕄)
      = (V d (cV L) (jV L)).loc cc1_scratch1 ↦{fullShare} f := by
  simp only [Memref.view_whole, View.set_whole]
omit [FloatOps F] in
theorem pts_sI_univ (f : Buf (Elt F) ((V d (cV L) (jV L)).loc cc1_scratch1)) :
    ((sI : Memref sig .scVector .vmem S384 .i32).view.loc (V d (cV L) (jV L)) ↦{fullShare} f : sProp 𝕄) = (V d (cV L) (jV L)).loc cc1_scratch1 ↦{fullShare} f := rfl
omit [FloatOps F] in
theorem pts_sO (f : Buf (Elt F) ((V d (cV L) (jV L)).loc cc1_scratch2)) :
    ((sO : Memref sig .scVector .vmem S768 .f32).view.loc (V d (cV L) (jV L)) ↦[(sO : Memref sig .scVector .vmem S768 .f32).view.set]{fullShare} f : sProp 𝕄)
      = (V d (cV L) (jV L)).loc cc1_scratch2 ↦{fullShare} f := by
  simp only [Memref.view_whole, View.set_whole]
omit [FloatOps F] in
theorem pts_sO_whole (f : Buf (Elt F) ((V d (cV L) (jV L)).loc cc1_scratch2)) :
    (((sO : Memref sig .scVector .vmem S768 .f32).access (.whole S768)).loc (V d (cV L) (jV L)) ↦[((sO : Memref sig .scVector .vmem S768 .f32).access (.whole S768)).set]{fullShare} f : sProp 𝕄)
      = (V d (cV L) (jV L)).loc cc1_scratch2 ↦{fullShare} f := by
  rw [show ((sO : Memref sig .scVector .vmem S768 .f32).access (.whole S768)).set = Finset.univ from Memref.set_access_whole (cc1_scratch2 : Ref sig .scVector)]

omit [FloatOps F] in
/-- The cells of the three copies are among the subcore's own. -/
theorem ownSems0_V :
    (ownSems0 (V d (cV L) (jV L)) : sProp 𝕄)
      = iprop(semVal (cA d (cV L) (jV L)) 0 ∗ semVal (cX d (cV L) (jV L)) 0 ∗ semVal (cB d (cV L) (jV L)) 0
          ∗ bigSep ((((ownCells (V d (cV L) (jV L))).erase (cA d (cV L) (jV L))).erase (cX d (cV L) (jV L))).erase (cB d (cV L) (jV L)))
              fun g => semVal g 0) := by
  unfold SparseCore.Cfg.ownSems0
  rw [SparseCore.bigSep_erase' ((mem_ownCells (g := cA d (cV L) (jV L))).mpr ⟨rfl, by
      show (SemLoc.dma cc1_scoped0.sem : SemLoc sig).isScoped .scVector = true; decide⟩),
    SparseCore.bigSep_erase' (Finset.mem_erase.mpr ⟨by simp [cA, cX]; decide, (mem_ownCells (g := cX d (cV L) (jV L))).mpr ⟨rfl, by
      show (SemLoc.dma cc1_scoped1.sem : SemLoc sig).isScoped .scVector = true; decide⟩⟩),
    SparseCore.bigSep_erase' (Finset.mem_erase.mpr ⟨by simp [cX, cB]; decide, Finset.mem_erase.mpr ⟨by simp [cA, cB]; decide,
      (mem_ownCells (g := cB d (cV L) (jV L))).mpr ⟨rfl, by show (SemLoc.dma cc1_scoped2.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-! ## A step, the steps -/

/-- The indices step `j` loads. -/
abbrev loaded (J : Buf (Elt F) ((V d (cV L) (jV L)).loc cc1_scratch1)) (j : ℕ) (hj : j < 24) : IVec S16 32 :=
  (sI : Memref sig .scVector .vmem S384 .i32).view.readAt (Elt F) (Rect.unit (s := S384) ![16 * j] S16.size (step_inb j hj)).toLoadRect J

omit [FloatOps F] in
theorem loaded_word (J : Buf (Elt F) ((V d (cV L) (jV L)).loc cc1_scratch1)) (j : ℕ) (hj : j < 24) (x : Fin 16) :
    (loaded (F := F) d L J j hj (ix1 x)).toNat = idxWord (n := 384) J (16 * j + x.val) := by
  have hx := x.isLt
  unfold idxWord
  show (J ((Rect.unit (s := S384) ![16 * j] S16.size (step_inb j hj)).toLoadRect.idx (ix1 x))).toNat = _
  congr 2
  funext a
  obtain rfl : a = 0 := Subsingleton.elim _ _
  apply Fin.ext
  rw [LoadRect.idx_apply]
  show 16 * j + 1 * x.val = (Fin.ofNat 384 (16 * j + x.val)).val
  simp only [Fin.ofNat]
  omega

/-- What an indexed load of the table reads at a lane. -/
theorem gather_word (A : Buf (Elt F) ((V d (cV L) (jV L)).loc cc1_scratch0)) (v : IVec S16 32)
    (h : ∀ a x, ((![v] : Fin 1 → IVec S16 32) a x).toNat < S16384.size a) (x : Fin 16) :
    loadIdx (((sT : Memref sig .scVector .vmem S16384 .f32).access (.whole S16384)).read (Elt F) A) ![v] h (ix1 x) = word A (v (ix1 x)).toNat := by
  have hx : (v (ix1 x)).toNat < 16384 := h 0 (ix1 x)
  rw [show ((sT : Memref sig .scVector .vmem S16384 .f32).access (.whole S16384)).read (Elt F) A = A from Memref.read_access_whole (Elt F) _ _]
  unfold loadIdx word
  refine congrArg A ?_
  rw [eq_ix1 (idxAt ![v] h (ix1 x))]
  congr 1
  apply Fin.ext
  show (v (ix1 x)).toNat = (v (ix1 x)).toNat % 16384
  omega

/-- The steps carry the staging buffer from its first words done to all of them. -/
theorem wp_steps (A : Buf (Elt F) ((V d (cV L) (jV L)).loc cc1_scratch0)) (J : Buf (Elt F) ((V d (cV L) (jV L)).loc cc1_scratch1))
    (hJ : InTable (n := 384) J) (rest : TaskProg F L) (Q : PUnit → sProp 𝕄) (n : ℕ) (hn : n ≤ 24)
    (f : Buf (Elt F) ((V d (cV L) (jV L)).loc cc1_scratch2)) (hf : ∀ k : S768.Idx, (k 0).val < 32 * (24 - n) → f k = staged (F := F) A J k) :
    (iprop(((V d (cV L) (jV L)).loc cc1_scratch0 ↦{fullShare} A) ∗ ((V d (cV L) (jV L)).loc cc1_scratch1 ↦{fullShare} J)
        ∗ ((V d (cV L) (jV L)).loc cc1_scratch2 ↦{fullShare} f)
        ∗ (iprop(((V d (cV L) (jV L)).loc cc1_scratch0 ↦{fullShare} A) ∗ ((V d (cV L) (jV L)).loc cc1_scratch1 ↦{fullShare} J)
            ∗ ((V d (cV L) (jV L)).loc cc1_scratch2 ↦{fullShare} (staged (F := F) A J : Buf (Elt F) ((V d (cV L) (jV L)).loc cc1_scratch2))))
          -∗ wp frame (wpE (defs₀ (F := F)) 𝒱₀ (V d (cV L) (jV L)) none) Set.univ rest Q)) : sProp 𝕄)
      ⊢ wp frame (wpE (defs₀ (F := F)) 𝒱₀ (V d (cV L) (jV L)) none) Set.univ (steps (F := F) L sT sI sO rest n) Q := by
  induction n generalizing f with
  | zero =>
    obtain rfl : f = (staged (F := F) A J : Buf (Elt F) ((V d (cV L) (jV L)).loc cc1_scratch2)) := funext fun k => hf k (by have : (k 0).val < 768 := (k 0).isLt; omega)
    show _ ⊢ wp _ _ _ rest Q
    iintro ⟨HA, HJ, Hf, Hk⟩
    iapply Hk
    isplitl [HA]; · iexact HA
    isplitl [HJ]; · iexact HJ
    iexact Hf
  | succ n ih =>
    have hj : 23 - n < 24 := by omega
    have hw := loaded_word (F := F) d L J (23 - n) hj
    have hlt : ∀ x : Fin 16, (loaded (F := F) d L J (23 - n) hj (ix1 x)).toNat + 1 < 16384 := fun x => by rw [hw]; exact hJ _
    have h1 : k1_chk1 (loaded (F := F) d L J (23 - n) hj) := by
      intro a x
      obtain rfl : a = 0 := Subsingleton.elim _ _
      obtain ⟨y, rfl⟩ : ∃ y : Fin 16, x = ix1 y := ⟨_, eq_ix1 x⟩
      have := hlt y
      show (loaded (F := F) d L J (23 - n) hj (ix1 y)).toNat < 16384
      omega
    have h2 : k1_chk1 (next (loaded (F := F) d L J (23 - n) hj)) := by
      intro a x
      obtain rfl : a = 0 := Subsingleton.elim _ _
      obtain ⟨y, rfl⟩ : ∃ y : Fin 16, x = ix1 y := ⟨_, eq_ix1 x⟩
      have := hlt y
      show (next (loaded (F := F) d L J (23 - n) hj) (ix1 y)).toNat < 16384
      rw [next_toNat _ _ (by omega)]
      omega
    have h3 : k1_chk3 (stepPos (23 - n)) := by
      intro a x
      obtain rfl : a = 0 := Subsingleton.elim _ _
      obtain ⟨y, rfl⟩ : ∃ y : Fin 16, x = ix1 y := ⟨_, eq_ix1 x⟩
      have := y.isLt
      show (stepPos (23 - n) (ix1 y)).toNat < 768
      rw [stepPos_toNat _ hj]
      omega
    have h4 : k1_chk3 (next (stepPos (23 - n))) := by
      intro a x
      obtain rfl : a = 0 := Subsingleton.elim _ _
      obtain ⟨y, rfl⟩ : ∃ y : Fin 16, x = ix1 y := ⟨_, eq_ix1 x⟩
      have := y.isLt
      show (next (stepPos (23 - n)) (ix1 y)).toNat < 768
      rw [next_toNat _ _ (by rw [stepPos_toNat _ hj]; omega), stepPos_toNat _ hj]
      omega
    have hstep := staged_step (F := F) A J (23 - n) hj (loaded (F := F) d L J (23 - n) hj) hJ hw _ _
      (gather_word (F := F) d L A _ (k1_idx1_inb _ h1)) (gather_word (F := F) d L A _ (k1_idx1_inb _ h2)) f
      (fun k hk => hf k (by omega)) (k1_idx3_inb _ h3) (k1_idx3_inb _ h4)
    change _ ⊢ wp _ _ _ (step (F := F) L sT sI sO (23 - n) hj (steps (F := F) L sT sI sO rest n)) Q
    unfold step
    simp only [Prog.lift, Prog.bind_op, Prog.bind_ret]
    iintro ⟨HA, HJ, Hf, Hk⟩
    ihave HJ' := (Entails.of_eq (pts_sI_univ (F := F) d L _).symm) $$ HJ
    iapply (wp_load 𝒱₀ (V d (cV L) (jV L)) none Set.univ (m := (sI : Memref sig .scVector .vmem S384 .i32)) (S := Finset.univ) (Finset.subset_univ _)) $$ HJ'; iintro HJ'
    ihave HJ := (Entails.of_eq (pts_sI_univ (F := F) d L _)) $$ HJ'
    rw [wp_assume_of _ _ _ _ h1]
    ihave HA' := (Entails.of_eq (pts_sT_access (F := F) d L _).symm) $$ HA
    iapply (SparseCore.wp_vectorLoadIdx 𝒱₀ (V d (cV L) (jV L)) none Set.univ (base := (sT : Memref sig .scVector .vmem S16384 .f32)) (S := Finset.univ) (q := fullShare) (Finset.subset_univ _)) $$ HA'; iintro HA'
    rw [wp_assume_of _ _ _ _ h2]
    iapply (SparseCore.wp_vectorLoadIdx 𝒱₀ (V d (cV L) (jV L)) none Set.univ (base := (sT : Memref sig .scVector .vmem S16384 .f32)) (S := Finset.univ) (q := fullShare) (Finset.subset_univ _)) $$ HA'; iintro HA'
    ihave HA := (Entails.of_eq (pts_sT_access (F := F) d L _)) $$ HA'
    rw [wp_assume_of _ _ _ _ h3]
    ihave Hf' := (Entails.of_eq (pts_sO_whole (F := F) d L _).symm) $$ Hf
    iapply (SparseCore.wp_vectorStoreIdx 𝒱₀ (V d (cV L) (jV L)) none Set.univ (base := (sO : Memref sig .scVector .vmem S768 .f32))) $$ Hf'; iintro Hf'
    rw [wp_assume_of _ _ _ _ h4]
    iapply (SparseCore.wp_vectorStoreIdx 𝒱₀ (V d (cV L) (jV L)) none Set.univ (base := (sO : Memref sig .scVector .vmem S768 .f32))) $$ Hf'; iintro Hf'
    ihave Hf := (Entails.of_eq (pts_sO_whole (F := F) d L _)) $$ Hf'
    rw [show (((sO : Memref sig .scVector .vmem S768 .f32).access (.whole S768)).read (Elt F) f) = f from Memref.read_access_whole (Elt F) _ _]
    rw [show ∀ w, (((sO : Memref sig .scVector .vmem S768 .f32).access (.whole S768)).write (Elt F) f w Finset.univ) = w from fun w => Memref.write_access_whole_univ (Elt F) _ _ _]
    rw [show ∀ w, (((sO : Memref sig .scVector .vmem S768 .f32).access (.whole S768)).read (Elt F) w) = w from fun w => Memref.read_access_whole (Elt F) _ _]
    rw [show ∀ g w, (((sO : Memref sig .scVector .vmem S768 .f32).access (.whole S768)).write (Elt F) g w Finset.univ) = w from fun g w => Memref.write_access_whole_univ (Elt F) _ _ _]
    iapply (ih (by omega) _ (fun k hk => hstep k (by omega)))
    isplitl [HA]; · iexact HA
    isplitl [HJ]; · iexact HJ
    isplitl [Hf]; · iexact Hf
    iexact Hk

/-! ## The task -/

/-- What the call hands a task: a share of the table, its indices, its words of the result. -/
abbrev goPts (q : PosShare TreeShare) (A : Buf (Elt F) (tLoc d)) (I : Buf (Elt F) (iLoc d)) (o : Buf (Elt F) (oLoc d)) (c s : ℕ) : sProp 𝕄 :=
  iprop((tLoc d ↦{q} A) ∗ (iLoc d ↦[iSet c s]{fullShare} I) ∗ (oLoc d ↦[oSet c s]{fullShare} o))

/-- What a task hands back: its words of the result, gathered and scaled. -/
abbrev tdPts (A : Buf (Elt F) (tLoc d)) (I : Buf (Elt F) (iLoc d)) (c s : ℕ) : sProp 𝕄 :=
  iprop(oLoc d ↦[oSet c s]{fullShare} (gathered (F := F) A I : Buf (Elt F) (oLoc d)))

omit [FloatOps F] in
theorem fetchT_lands (fs : Buf (Elt F) ((V d (cV L) (jV L)).loc cc1_scratch0)) (A : Buf (Elt F) (tLoc d)) :
    (sT : Memref sig .scVector .vmem S16384 .f32).view.write (Elt F) fs ((tV : Memref sig .scVector .hbm S16384 .f32).view.read (Elt F) A) Finset.univ = A :=
  View.write_whole_univ _ _ _
omit [FloatOps F] in
theorem fetchI_lands (fs : Buf (Elt F) ((V d (cV L) (jV L)).loc cc1_scratch1)) (I : Buf (Elt F) (iLoc d)) :
    (sI : Memref sig .scVector .vmem S384 .i32).view.write (Elt F) fs ((iRowK L).view.read (Elt F) I) Finset.univ = fetched (F := F) I L :=
  View.write_whole_univ _ _ _

/-- The task on vector subcore `(L 0, L 1)` of device `d`: the two fetches and their waits, the steps, the write-out and its wait. -/
theorem tile_body (hF : (K (F := F)).Facts) (q : PosShare TreeShare) (A : Buf (Elt F) (tLoc d)) (I : Buf (Elt F) (iLoc d)) (o : Buf (Elt F) (oLoc d))
    (hI : InTable (n := 12288) I) (O : CellTallies nD τ sig (HIx 1)) (W : Waits sig (HIx 1)) (hO : ∀ g, O g none = 0) :
    iprop(levAts (K (F := F)).L (K (F := F)).lev ∗ goPts d q A I o (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L tV (Memref.isWhole_whole _) iV (Memref.isWhole_whole _) oV (Memref.isWhole_whole _)
            sT (Memref.isWhole_whole _) sI (Memref.isWhole_whole _) sO (Memref.isWhole_whole _) cc1_scoped0 cc1_scoped1 cc1_scoped2)
          fun _ => iprop(tdPts d A I (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc1_k_eq_task]; unfold task
  simp only [Prog.lift, Prog.bind_op, Prog.bind_ret]
  rw [(K (F := F)).scopedBufs_V hF d (cV L) (jV L), SparseCore.Cfg.scopedSems0_V (Val := Elt F) d (cV L) (jV L), ownSems0_V, ownBufs_V]
  iintro ⟨#Hlv, ⟨Ht, Hi, Ho⟩, ⟨⟨%fs, Hs⟩, ⟨%fx, Hsx⟩, ⟨%fc, Hc⟩, Hbufs⟩, ⟨HsemA, HsemX, HsemB, Hsems⟩, HO⟩
  -- the table's fetch and its wait
  ihave Ht' := (Entails.of_eq (pts_tV (F := F) d L q _).symm) $$ Ht
  ihave Hs' := (Entails.of_eq (pts_sT (F := F) d L _).symm) $$ Hs
  iapply (Transfers.wp_dmaLocal countersEmb 𝒱₀ (V d (cV L) (jV L)) none (none : HIx 1) _ rfl (View.amount_pos _ _ (show 0 < S16384.numel by decide)) (subset_refl _)) $$ [Ht' Hs' HsemA]
  · isplitl [Ht']; · iexact Ht'
    isplitl [Hs']; · iexact Hs'
    iexact HsemA
  iintro Hfl
  iapply (Transfers.wp_waitLocalO countersEmb 𝒱₀ (V d (cV L) (jV L)) none (none : HIx 1) (rfl : _ = _)) $$ [Hfl HO]
  · isplitl [Hfl]; · iexact Hfl
    isplitl [HO]; · iexact HO
    iapply ((K (F := F)).mayWait_none (SemLoc.dma cc1_scoped0.sem) hO); iexact Hlv
  iintro ⟨⟨Hs', Ht'⟩, HsemA, HO⟩
  -- the indices' fetch and its wait
  ihave Hi' := (Entails.of_eq (pts_iRowK (F := F) d L _).symm) $$ Hi
  ihave Hsx' := (Entails.of_eq (pts_sI (F := F) d L _).symm) $$ Hsx
  iapply (Transfers.wp_dmaLocal countersEmb 𝒱₀ (V d (cV L) (jV L)) none (none : HIx 1) _ rfl (View.amount_pos _ _ (show 0 < S384.numel by decide)) (subset_refl _)) $$ [Hi' Hsx' HsemX]
  · isplitl [Hi']; · iexact Hi'
    isplitl [Hsx']; · iexact Hsx'
    iexact HsemX
  iintro Hfl
  iapply (Transfers.wp_waitLocalO countersEmb 𝒱₀ (V d (cV L) (jV L)) none (none : HIx 1) (rfl : _ = _)) $$ [Hfl HO]
  · isplitl [Hfl]; · iexact Hfl
    isplitl [HO]; · iexact HO
    iapply ((K (F := F)).mayWait_none (SemLoc.dma cc1_scoped1.sem) hO); iexact Hlv
  iintro ⟨⟨Hsx', Hi'⟩, HsemX, HO⟩
  ihave Hs := (Entails.of_eq ((pts_sT (F := F) d L _).trans (by rw [show ∀ w, (ReadAs.same (Val := Elt F) (s := S16384) (e := .f32)).apply w = w from fun _ => rfl, fetchT_lands (F := F) d L]))) $$ Hs'
  ihave Hsx := (Entails.of_eq ((pts_sI (F := F) d L _).trans (by rw [show ∀ w, (ReadAs.same (Val := Elt F) (s := S384) (e := .i32)).apply w = w from fun _ => rfl, fetchI_lands (F := F) d L]))) $$ Hsx'
  -- the steps
  iapply (wp_steps (F := F) d L A (fetched (F := F) I L) (fetched_inTable (F := F) L I hI) _ _ 24 le_rfl fc (fun k hk => absurd hk (by omega)))
  isplitl [Hs]; · iexact Hs
  isplitl [Hsx]; · iexact Hsx
  isplitl [Hc]; · iexact Hc
  iintro ⟨Hs, Hsx, Hc⟩
  -- the write-out and its wait
  unfold writeOut
  simp only [Prog.lift, Prog.bind_op, Prog.bind_ret, Prog.pure_eq_ret]
  ihave Hc' := (Entails.of_eq (pts_sO (F := F) d L _).symm) $$ Hc
  ihave Ho' := (Entails.of_eq (pts_oRowK (F := F) d L _).symm) $$ Ho
  iapply (Transfers.wp_dmaLocal countersEmb 𝒱₀ (V d (cV L) (jV L)) none (none : HIx 1) _ rfl (View.amount_pos _ _ (show 0 < S768.numel by decide)) (subset_refl _)) $$ [Hc' Ho' HsemB]
  · isplitl [Hc']; · iexact Hc'
    isplitl [Ho']; · iexact Ho'
    iexact HsemB
  iintro Hfl
  iapply (Transfers.wp_waitLocalO countersEmb 𝒱₀ (V d (cV L) (jV L)) none (none : HIx 1) (rfl : _ = _)) $$ [Hfl HO]
  · isplitl [Hfl]; · iexact Hfl
    isplitl [HO]; · iexact HO
    iapply ((K (F := F)).mayWait_none (SemLoc.dma cc1_scoped2.sem) hO); iexact Hlv
  iintro ⟨⟨Ho', Hc'⟩, HsemB, HO⟩
  ihave Hc := (Entails.of_eq (pts_sO (F := F) d L _)) $$ Hc'
  have hw : ∀ k ∈ (oRowK L).view.set, (oRowK L).view.write (Elt F) o ((ReadAs.same (Val := Elt F) (s := S768) (e := .f32)).apply
      ((sO : Memref sig .scVector .vmem S768 .f32).view.read (Elt F) (staged (F := F) A (fetched (F := F) I L)))) Finset.univ k = gathered (F := F) A I k :=
    written (F := F) d L A I o
  ihave Ho := (Entails.of_eq ((pointsTo_congr hw).trans (pts_oRowK (F := F) d L _))) $$ Ho'
  rw [wp_ret]; imodintro
  isplitl [Ho]; · iexact Ho
  isplitl [Hs Hsx Hc Hbufs]
  · isplitl [Hs]
    · iexists _; iexact Hs
    isplitl [Hsx]
    · iexists _; iexact Hsx
    isplitl [Hc]
    · iexists _; iexact Hc
    · iexact Hbufs
  isplitl [HsemA HsemX HsemB Hsems]
  · isplitl [HsemA]; · iexact HsemA
    isplitl [HsemX]; · iexact HsemX
    isplitl [HsemB]; · iexact HsemB
    iexact Hsems
  iexists (insert (SemLoc.dma cc1_scoped2.sem, none) (insert (SemLoc.dma cc1_scoped1.sem, none) (insert (SemLoc.dma cc1_scoped0.sem, none) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Cert.Proof

end
-- ==== Proof.Body.lean ====
/-
  The TensorCore kernel's body: what it stores, as a function of the two blocks it loads, and its run.
-/
module

public import proofs.«01_k».proof.Proof.Setup
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The body's arithmetic, in the order the body computes it -/

/-- The scores of the queries of block `q` against the keys of block `k`. -/
def scores (q : Vec F S1x128x2048 .f32) (k : Vec F S1x128x4096 .f32) : FVec F S2048x4096 .f32 :=
  k0_pay7 (k0_pay2 q) (k0_pay3 k) (k0_pay4 q) (k0_pay5 k)
/-- The keys' norms. -/
def norms (k : Vec F S1x128x4096 .f32) : FVec F S1x4096 .f32 := k0_pay6 (k0_pay5 k)

abbrev V128 (F : FTy → Type) : Type := FVec F S2048x128 .f32

/-- What the body's second part leaves of the running three largest. -/
def part2 (q : Vec F S1x128x2048 .f32) (k : Vec F S1x128x4096 .f32) : V128 F × V128 F × V128 F × V128 F × V128 F :=
  (k0_pay36 (k0_pay2 q) (k0_pay3 k) (k0_pay4 q) (k0_pay5 k), k0_pay37 (k0_pay2 q) (k0_pay3 k) (k0_pay4 q) (k0_pay5 k),
    k0_pay39 (k0_pay2 q) (k0_pay3 k) (k0_pay4 q) (k0_pay5 k), k0_pay40 (k0_pay2 q) (k0_pay3 k) (k0_pay4 q) (k0_pay5 k),
    k0_pay41 (k0_pay2 q) (k0_pay3 k) (k0_pay4 q) (k0_pay5 k))
/-- What its third part leaves, from the second's. -/
def part3 (s : FVec F S2048x4096 .f32) (p : V128 F × V128 F × V128 F × V128 F × V128 F) : V128 F × V128 F × V128 F × V128 F × V128 F :=
  (k0_pay77 s p.2.2.1 p.2.2.2.2, k0_pay78 s p.1 p.2.1 p.2.2.1 p.2.2.2.1 p.2.2.2.2, k0_pay80 s p.2.2.1, k0_pay81 s p.2.2.1, k0_pay82 s p.2.2.1 p.2.2.2.2)
/-- What its fourth part leaves, from the third's. -/
def part4 (s : FVec F S2048x4096 .f32) (p : V128 F × V128 F × V128 F × V128 F × V128 F) : V128 F × V128 F × V128 F × V128 F × V128 F :=
  (k0_pay118 s p.2.2.1 p.2.2.2.2, k0_pay119 s p.1 p.2.1 p.2.2.1 p.2.2.2.1 p.2.2.2.2, k0_pay121 s p.2.2.1, k0_pay122 s p.2.2.1, k0_pay123 s p.2.2.1 p.2.2.2.2)
abbrev V16 (F : FTy → Type) : Type := FVec F S2048x16 .f32
abbrev V1 (F : FTy → Type) : Type := FVec F S2048x1 .f32
/-- What its fifth part leaves, from the fourth's. -/
def part5 (s : FVec F S2048x4096 .f32) (p : V128 F × V128 F × V128 F × V128 F × V128 F) : FVec F S2048x32 .f32 × V16 F × V16 F × V16 F × V16 F :=
  (k0_pay156 s p.1 p.2.1 p.2.2.1 p.2.2.2.1 p.2.2.2.2, k0_pay157 s p.2.2.1, k0_pay158 s p.2.2.1, k0_pay159 s p.2.2.1 p.2.2.2.2, k0_pay160 s p.2.2.1 p.2.2.2.2)
/-- What its sixth part leaves, from the fifth's. -/
def part6 (p : FVec F S2048x32 .f32 × V16 F × V16 F × V16 F × V16 F) : FVec F S2048x2 .f32 × V1 F × V1 F × V1 F × V1 F :=
  (k0_pay189 p.1 p.2.1 p.2.2.1 p.2.2.2.1 p.2.2.2.2, k0_pay190 p.2.1 p.2.2.1, k0_pay191 p.2.1 p.2.2.1,
    k0_pay192 p.2.1 p.2.2.1 p.2.2.2.1 p.2.2.2.2, k0_pay193 p.2.1 p.2.2.1 p.2.2.2.1 p.2.2.2.2)

/-- The block the body stores: the predicted coordinates of the block's queries. -/
def corr (q : Vec F S1x128x2048 .f32) (k : Vec F S1x128x4096 .f32) : Vec F S1x2048x2 .f32 :=
  let p := part6 (part5 (scores q k) (part4 (scores q k) (part3 (scores q k) (part2 q k))))
  k0_pay1 (norms k) (scores q k) p.1 p.2.1 p.2.2.1 p.2.2.2.1 p.2.2.2.2

/-! ## The body's run -/

/-- Memref `M`'s buffer on core `c` held whole at `f`. -/
abbrev ptM (c : Dev nD) {sp : Space} {S : Shape} {e : EltTy} (M : Memref sig .tc sp S e) (f : Buf (Elt F) (M.view.loc (c : Thread nD τ))) : sProp 𝕄 :=
  M.view.loc (c : Thread nD τ) ↦{fullShare} f

/-- The offset-zero rectangle at a whole extent is the whole rectangle's indices. -/
theorem idx_zero {r : ℕ} {d : Fin r → ℕ} {off : Fin r → ℕ} (h0 : off = fun _ => 0) (inb) (j : (⟨r, d⟩ : Shape).Idx) :
    (Rect.unit (s := ⟨r, d⟩) off d inb).emb j = j := by
  subst h0
  funext a; apply Fin.ext
  show 0 + 1 * (j a).val = (j a).val
  omega

set_option maxRecDepth 65536 in
/-- The body from its three staging buffers, whole, the operands' at `q` and `k`: the result's left at `corr q k`. -/
theorem body_run (c : Dev nD) (i : grid0.Coords)
    (M0 : Memref sig .tc .vmem S1x128x2048 .f32) (h0 : M0.IsWhole)
    (M1 : Memref sig .tc .vmem S1x128x4096 .f32) (h1 : M1.IsWhole) (M2 : Memref sig .tc .vmem S1x2048x2 .f32) (h2 : M2.IsWhole)
    (f0 : Buf (Elt F) (M0.view.loc (c : Thread nD τ))) (f1 : Buf (Elt F) (M1.view.loc (c : Thread nD τ))) (f2 : Buf (Elt F) (M2.view.loc (c : Thread nD τ)))
    (Q : PUnit → sProp 𝕄) :
      iprop(ptM c M0 f0 ∗ ptM c M1 f1 ∗ ptM c M2 f2
          ∗ (iprop(ptM c M0 f0 ∗ ptM c M1 f1 ∗ ptM c M2 ((M2.access (Rect.unit (s := S1x2048x2) ![0, 0, 0] S1x2048x2.size inb_S1x2048x2_S1x2048x2_0_0_0)).write (Elt F) f2
              (corr (M0.view.readAt (Elt F) (Rect.unit (s := S1x128x2048) ![0, 0, 0] S1x128x2048.size inb_S1x128x2048_S1x128x2048_0_0_0).toLoadRect f0)
                (M1.view.readAt (Elt F) (Rect.unit (s := S1x128x4096) ![0, 0, 0] S1x128x4096.size inb_S1x128x4096_S1x128x4096_0_0_0).toLoadRect f1)) Finset.univ)) -∗ Q ⟨⟩))
        ⊢ wp frame (wpE (defs₀ (F := F)) Variants.none (c : Thread nD τ) none) Set.univ (cc0__corr_body (F := F) i M0 h0 M1 h1 M2 h2) Q := by
  simp only [cc0__corr_body_eq_skeleton]; unfold cc0__corr_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [Prog.lift, Prog.bind_op, Prog.bind_ret, Prog.pure_eq_ret]
  iintro ⟨H0, H1, H2, Hk⟩
  iapply (wp_load Variants.none (c : Thread nD τ) none Set.univ (m := M0) (S := Finset.univ) (Finset.subset_univ _)) $$ H0; iintro H0
  iapply (wp_load Variants.none (c : Thread nD τ) none Set.univ (m := M1) (S := Finset.univ) (Finset.subset_univ _)) $$ H1; iintro H1
  iapply (wp_load Variants.none (c : Thread nD τ) none Set.univ (m := M2) (S := Finset.univ) (Finset.subset_univ _)) $$ H2; iintro H2
  ihave H2 := (show (ptM c M2 f2 : sProp 𝕄) ⊢ (M2.access (Rect.unit (s := S1x2048x2) ![0, 0, 0] S1x2048x2.size inb_S1x2048x2_S1x2048x2_0_0_0)).loc (c : Thread nD τ) ↦{fullShare} f2
    from BI.Entails.refl _) $$ H2
  iapply (wp_store Variants.none (c : Thread nD τ) none Set.univ (m := M2) (r := Rect.unit (s := S1x2048x2) ![0, 0, 0] S1x2048x2.size inb_S1x2048x2_S1x2048x2_0_0_0) (Mk := Finset.univ) (S := Finset.univ) (Finset.subset_univ _)) $$ H2; iintro H2
  rw [wp_ret]; imodintro
  iapply Hk
  isplitl [H0]; · iexact H0
  isplitl [H1]; · iexact H1
  iexact H2

end Cert.Proof

end
-- ==== Proof.Region.lean ====
/-
  The TensorCore's pipelined call: its proof data (each operand's block as fetched, the result's block `corr` of the
  two), its body's obligation at every grid point, and the call as a step between "every unscoped buffer at `V`" and the
  same with the result's array written, the core owing the SparseCore launch's start throughout.
-/
module

public import proofs.«01_k».proof.Proof.Body
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameBody

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-! ## The body over owned staging memrefs -/

/-- The body from its three staging memrefs owned, the operands' at `x` and `y`: the result's left at `corr x y`. -/
theorem body_owns (c : Dev nD) (i : grid0.Coords)
    (M0 : Memref sig .tc .vmem S1x128x2048 .f32) (h0 : M0.IsWhole)
    (M1 : Memref sig .tc .vmem S1x128x4096 .f32) (h1 : M1.IsWhole) (M2 : Memref sig .tc .vmem S1x2048x2 .f32) (h2 : M2.IsWhole)
    (x : Vec F S1x128x2048 .f32) (y : Vec F S1x128x4096 .f32) (z : Vec F S1x2048x2 .f32) (Q : PUnit → sProp 𝕄) :
      iprop(owns (c : Thread nD τ) M0 fullShare x ∗ owns (c : Thread nD τ) M1 fullShare y ∗ owns (c : Thread nD τ) M2 fullShare z
          ∗ (iprop(owns (c : Thread nD τ) M0 fullShare x ∗ owns (c : Thread nD τ) M1 fullShare y ∗ owns (c : Thread nD τ) M2 fullShare (corr x y)) -∗ Q ⟨⟩))
        ⊢ wp frame (wpE (defs₀ (F := F)) Variants.none (c : Thread nD τ) none) Set.univ (cc0__corr_body (F := F) i M0 h0 M1 h1 M2 h2) Q := by
  unfold owns
  rw [h0.set_eq_univ, h1.set_eq_univ, h2.set_eq_univ]
  iintro ⟨⟨%f0, %e0, H0⟩, ⟨%f1, %e1, H1⟩, ⟨%f2, %e2, H2⟩, Hk⟩
  iapply (body_run c i M0 h0 M1 h1 M2 h2 f0 f1 f2 Q)
  isplitl [H0]; · iexact H0
  isplitl [H1]; · iexact H1
  isplitl [H2]; · iexact H2
  iintro ⟨H0, H1, H2⟩
  iapply Hk
  isplitl [H0]; · iexists f0; isplitr; · ipureintro; exact e0
                  iexact H0
  isplitl [H1]; · iexists f1; isplitr; · ipureintro; exact e1
                  iexact H1
  iexists _; isplitr; swap; · iexact H2
  ipureintro
  subst e0 e1
  rw [show M0.view.readAt (Elt F) (Rect.unit (s := S1x128x2048) ![0, 0, 0] S1x128x2048.size inb_S1x128x2048_S1x128x2048_0_0_0).toLoadRect f0 = M0.view.read (Elt F) f0 from
      funext fun j => congrArg (M0.view.read (Elt F) f0) (idx_zero (by funext a; fin_cases a <;> rfl) _ j),
    show M1.view.readAt (Elt F) (Rect.unit (s := S1x128x4096) ![0, 0, 0] S1x128x4096.size inb_S1x128x4096_S1x128x4096_0_0_0).toLoadRect f1 = M1.view.read (Elt F) f1 from
      funext fun j => congrArg (M1.view.read (Elt F) f1) (idx_zero (by funext a; fin_cases a <;> rfl) _ j)]
  have key := View.read_write_univ (Val := Elt F) (v := M2.access (Rect.unit (s := S1x2048x2) ![0, 0, 0] S1x2048x2.size inb_S1x2048x2_S1x2048x2_0_0_0)) f2
    (corr (M0.view.read (Elt F) f0) (M1.view.read (Elt F) f1))
  funext j
  refine Eq.trans ?_ (congrFun key j)
  exact (congrArg (M2.view.read (Elt F) _) (idx_zero (by funext a; fin_cases a <;> rfl) inb_S1x2048x2_S1x2048x2_0_0_0 j)).symm

/-! ## The proof data -/

variable (V : Dev nD → Valuation τ sig (Elt F))

/-- The block window `w` fetches at point `t`. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data: the arrays at `V`, each operand's staging buffer as fetched, the result's at `corr` of
    them; the core owes the SparseCores their start throughout, having waited at level 0 only. -/
def dat0 (c : Dev nD) : Dat τ (Elt F) (HIx 1) ℕ UU ℕ cfg0 c where
  A w := V c (Pipeline.arrRef spec0 w)
  after w t := match w with
    | ⟨0, _⟩ => blk V c 0 t
    | ⟨1, _⟩ => blk V c 1 t
    | ⟨2, _⟩ => corr (blk V c 0 t) (blk V c 1 t)
  Φ _ := iprop(emp)
  q _ := fullShare
  owed _ := (K (F := F)).Otc c 0
  recorded _ := {p | (K (F := F)).lev (SparseCore.T c, p.1) p.2 ≤ 0}

/-- The pipeline has no prefetched table to admit. -/
abbrev adm (p : Fin 1) : (pcfgs (F := F) p).Adm := (cfgs p).toPCfg_adm

/-- The proof data of @main's one pipelined call. -/
def pdats : (p : Fin 1) → (c : Dev nD) → Dat τ (Elt F) (HIx 1) ℕ UU ℕ (Pipeline.pin (pcfgs (F := F)) adm p) c
  | 0 => dat0 V

theorem before_0 (c : Dev nD) (t : Fin cfg0.N) (d) : (dat0 V c).before 0 t d = blk V c 0 t :=
  ((dat0 V c).before_in_eq_fetched 0 rfl (fun _ => rfl) (fun _ _ _ => rfl) (fun _ => rfl) t d).trans rfl

theorem before_1 (c : Dev nD) (t : Fin cfg0.N) (d) : (dat0 V c).before 1 t d = blk V c 1 t :=
  ((dat0 V c).before_in_eq_fetched 1 rfl (fun _ => rfl) (fun _ _ _ => rfl) (fun _ => rfl) t d).trans rfl

/-- The body's obligation at every grid point. -/
theorem body_obligation (c : Dev nD) : BodyObligation (dat0 V c) (defs₀ (F := F)) Variants.none (none : HIx 1) Set.univ := fun t => by
  rw [bigSep_W0, bigSep_W0]
  rw [show (dat0 V c).Φ t.castSucc = iprop(emp) from rfl, show (dat0 V c).Φ t.succ = iprop(emp) from rfl,
    show (dat0 V c).owesAt none t.succ = (dat0 V c).owesAt none t.castSucc from rfl]
  iintro ⟨-, HO, ⟨%d0, H0⟩, ⟨%d1, H1⟩, ⟨%d2, H2⟩⟩
  rw [before_0, before_1]
  iapply (body_owns c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (blk V c 0 t) (blk V c 1 t) _ _)
  isplitl [H0]; · iexact H0
  isplitl [H1]; · iexact H1
  isplitl [H2]; · iexact H2
  iintro ⟨H0, H1, H2⟩
  isplitr; · iempintro
  isplitl [HO]; · iexact HO
  isplitl [H0]; · iexact H0
  isplitl [H1]; · iexact H1
  iexact H2

/-! ## The region -/

/-- The result's array after the call. -/
def predOut (c : Dev nD) : Buf (Elt F) ((c : Thread nD τ).loc main_v2) := (dat0 V c).arrAt 2 cfg0.N

/-- The valuation the call leaves: the result's array written. -/
def Vreg (c : Dev nD) : Valuation τ sig (Elt F) := Function.update (V c) (Proc.devRef .tc main_v2) (predOut V c)

theorem Vreg_self (c : Dev nD) : Vreg V c main_v2 = predOut V c := Function.update_self ..
theorem Vreg_of_ne (c : Dev nD) (b : Ref sig .tc) (h : b ≠ main_v2) : Vreg V c b = V c b :=
  Function.update_of_ne (fun e => h (Proc.devRef_injective _ e)) ..

/-- What the core owes at the call, its waits so far at level 0. -/
def owesTc (c : Dev nD) : sProp 𝕄 :=
  iprop(∃ W, ⌜(K (F := F)).WBelow (SparseCore.T c) W 0⌝ ∗ owes (SparseCore.T c) ((K (F := F)).Otc c 0) W)

set_option backward.isDefEq.respectTransparency.types false in
/-- The call, between the unscoped buffers at `V` and at `Vreg V`. -/
def reg : Pipeline.RegionSeg (pcfgs (F := F)) adm (pdats V) (none : HIx 1) defs₀ Variants.none (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_of_cut _ (pdats V) none 0 c (lev := (K (F := F)).lev) 0 ((K (F := F)).Otc c 0) (fun _ => rfl)
    (fun _ _ => Finset.mem_univ _) (fun _ _ => le_refl _) fun g i hg => ⟨Finset.mem_univ _, lt_of_lt_of_le (Nat.succ_pos _) ((K (F := F)).lev_of_Otc_pos hg)⟩
  pre c := iprop(unscopedBufs c (fun b => V c b) ∗ owesTc (F := F) c)
  post c := iprop(unscopedBufs c (fun b => Vreg V c b) ∗ owesTc (F := F) c)
  X _ := iprop(emp)
  Y _ := iprop(emp)
  Z c := Pipeline.unscopedRest (Ix := HIx 1) (Name := ℕ) (U := UU) (Lvl := ℕ) spec0 c (fun b => V c b)
  hentry c := by
    rw [Pipeline.ownSems0_none]
    have hsplit := Pipeline.arrays_of_unscopedBufs (p := 0) (pcfgs (F := F)) adm (pdats V) launch0.win launch0.arr_whole c
      ((pdats V 0 c).share_full fun _ => rfl) (fun b => V c b) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold owesTc Pipeline.Dat.owesAt Pipeline.owesWithin
      icases HO with ⟨%W, %hW, HO⟩; iexists W; isplitr; · ipureintro; exact fun p hp => Or.inl (hW p hp)
      iexact HO
    isplitr; · iempintro
    iexact Hr
  hin c := by iintro -; iempintro
  hout c := by
    rw [Pipeline.ownSems0_none, scopedRest0_eq]
    iintro -; isplitr; · iempintro
    isplitr <;> iempintro
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (fun b => V c b) (fun b => Vreg V c b) ((pdats V 0 c).arrAt · cfg0.N)
      (fun w => by
        fin_cases w
        · exact ((dat0 V c).arrAt_in 0 rfl _).trans (Vreg_of_ne V c main_v1 (by decide)).symm
        · exact ((dat0 V c).arrAt_in 1 rfl _).trans (Vreg_of_ne V c main_v0 (by decide)).symm
        · exact (Vreg_self V c).symm)
      (fun b hb => Vreg_of_ne V c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold owesTc Pipeline.Dat.owesAt Pipeline.owesWithin
    icases HO with ⟨%W, %hW, HO⟩; iexists W; isplitr
    · ipureintro
      intro p hp
      rcases hW hp with h | ⟨w, s, rfl⟩
      · exact h
      · exact le_refl _
    iexact HO

end Cert.Proof

end
-- ==== Proof.Launch.lean ====
/-
  The launch: what the handshakes carry (a share of the table, the task's own indices and words of the result), the ghost
  state dealt at the start, @main on the TensorCore, and the run — every execution terminates, the arguments unchanged, the
  results at their terms, every counter back at zero.
-/
module

public import proofs.«01_k».proof.Proof.HostFacts
public import proofs.«01_k».proof.Proof.Tile
public import proofs.«01_k».proof.Proof.Region

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq seqK)

variable {F : FTy → Type} [FloatOps F]

local notation "𝕄" => MT nD τ sig (HIx 1) (Elt F) ℕ UU ℕ

/-! ## The gather call's arrays dealt to its tasks -/

/-- The share of the table task `(c, s)` reads with. -/
def shareOf (c : Fin 2) (s : Fin 16) : PosShare TreeShare := Transfers.shareTok (Transfers.shareTok fullShare 2 c) 16 s

omit [FloatOps F] in
/-- The whole table yields a share of it to every task. -/
theorem table_deal (d : Dev nD) (f : Buf (Elt F) (tLoc d)) :
    (tLoc d ↦{fullShare} f : sProp 𝕄) ⊢ bigSep Finset.univ fun c : Fin 2 => bigSep Finset.univ fun s : Fin 16 => tLoc d ↦{shareOf c s} f := by
  refine (Transfers.pointsTo_toks_split fullShare 2).trans ?_
  refine sep_elim_right.trans (bigSep_mono fun c _ => ?_)
  exact (Transfers.pointsTo_toks_split _ 16).trans sep_elim_right

theorem iSet_disjoint (c c' : Fin 2) (s s' : Fin 16) (h : c ≠ c' ∨ s ≠ s') : Disjoint (iSet c.val s.val) (iSet c'.val s'.val) := by
  refine Finset.disjoint_left.mpr fun k h1 h2 => ?_
  have e1 := (Finset.mem_filter.mp h1).2
  have e2 := (Finset.mem_filter.mp h2).2
  have := c.isLt; have := c'.isLt
  rcases h with h | h <;> exact h (Fin.ext (by omega))
theorem oSet_disjoint (c c' : Fin 2) (s s' : Fin 16) (h : c ≠ c' ∨ s ≠ s') : Disjoint (oSet c.val s.val) (oSet c'.val s'.val) := by
  refine Finset.disjoint_left.mpr fun k h1 h2 => ?_
  have e1 := (Finset.mem_filter.mp h1).2
  have e2 := (Finset.mem_filter.mp h2).2
  have := c.isLt; have := c'.isLt
  rcases h with h | h <;> exact h (Fin.ext (by omega))

/-- The parts of one SparseCore's tasks together. -/
def iCol (c : Fin 2) : Finset S12288.Idx := Finset.univ.biUnion fun s : Fin 16 => iSet c.val s.val
def oCol (c : Fin 2) : Finset S24576.Idx := Finset.univ.biUnion fun s : Fin 16 => oSet c.val s.val

theorem iCol_disjoint : ∀ c ∈ (Finset.univ : Finset (Fin 2)), ∀ c' ∈ (Finset.univ : Finset (Fin 2)), c ≠ c' → Disjoint (iCol c) (iCol c') :=
  fun c _ c' _ h => (Finset.disjoint_biUnion_left _ _ _).mpr fun s _ => (Finset.disjoint_biUnion_right _ _ _).mpr fun s' _ => iSet_disjoint c c' s s' (Or.inl h)
theorem oCol_disjoint : ∀ c ∈ (Finset.univ : Finset (Fin 2)), ∀ c' ∈ (Finset.univ : Finset (Fin 2)), c ≠ c' → Disjoint (oCol c) (oCol c') :=
  fun c _ c' _ h => (Finset.disjoint_biUnion_left _ _ _).mpr fun s _ => (Finset.disjoint_biUnion_right _ _ _).mpr fun s' _ => oSet_disjoint c c' s s' (Or.inl h)

theorem iCol_cover : (Finset.univ : Finset (Fin 2)).biUnion iCol = Finset.univ := by
  refine Finset.eq_univ_of_forall fun k => ?_
  have hk : (k 0).val < 12288 := (k 0).isLt
  refine Finset.mem_biUnion.mpr ⟨⟨(k 0).val / 384 % 2, by omega⟩, Finset.mem_univ _, Finset.mem_biUnion.mpr ⟨⟨(k 0).val / 384 / 2, by omega⟩, Finset.mem_univ _, ?_⟩⟩
  refine Finset.mem_filter.mpr ⟨Finset.mem_univ _, ?_⟩
  show (k 0).val / 384 = (k 0).val / 384 / 2 * 2 + (k 0).val / 384 % 2
  omega
theorem oCol_cover : (Finset.univ : Finset (Fin 2)).biUnion oCol = Finset.univ := by
  refine Finset.eq_univ_of_forall fun k => ?_
  have hk : (k 0).val < 24576 := (k 0).isLt
  refine Finset.mem_biUnion.mpr ⟨⟨(k 0).val / 768 % 2, by omega⟩, Finset.mem_univ _, Finset.mem_biUnion.mpr ⟨⟨(k 0).val / 768 / 2, by omega⟩, Finset.mem_univ _, ?_⟩⟩
  refine Finset.mem_filter.mpr ⟨Finset.mem_univ _, ?_⟩
  show (k 0).val / 768 = (k 0).val / 768 / 2 * 2 + (k 0).val / 768 % 2
  omega

omit [FloatOps F] in
/-- The list of indices is its tasks' parts. -/
theorem iPts_deal (d : Dev nD) (f : Buf (Elt F) (iLoc d)) :
    (iLoc d ↦{fullShare} f : sProp 𝕄)
      = bigSep Finset.univ fun c : Fin 2 => bigSep Finset.univ fun s : Fin 16 => iLoc d ↦[iSet c.val s.val]{fullShare} f := by
  have h : (iLoc d ↦{fullShare} f : sProp 𝕄) = bigSep Finset.univ fun c : Fin 2 => iLoc d ↦[iCol c]{fullShare} f := by
    rw [← pointsTo_biUnion Finset.univ (ℓ := iLoc d) iCol iCol_disjoint, iCol_cover]; try rfl
  rw [h]
  refine bigSep_congr fun c _ => ?_
  exact pointsTo_biUnion Finset.univ (ℓ := iLoc d) (fun s : Fin 16 => iSet c.val s.val) fun s _ s' _ h => iSet_disjoint c c s s' (Or.inr h)
omit [FloatOps F] in
/-- The result is its tasks' parts. -/
theorem oPts_deal (d : Dev nD) (f : Buf (Elt F) (oLoc d)) :
    (oLoc d ↦{fullShare} f : sProp 𝕄)
      = bigSep Finset.univ fun c : Fin 2 => bigSep Finset.univ fun s : Fin 16 => oLoc d ↦[oSet c.val s.val]{fullShare} f := by
  have h : (oLoc d ↦{fullShare} f : sProp 𝕄) = bigSep Finset.univ fun c : Fin 2 => oLoc d ↦[oCol c]{fullShare} f := by
    rw [← pointsTo_biUnion Finset.univ (ℓ := oLoc d) oCol oCol_disjoint, oCol_cover]; try rfl
  rw [h]
  refine bigSep_congr fun c _ => ?_
  exact pointsTo_biUnion Finset.univ (ℓ := oLoc d) (fun s : Fin 16 => oSet c.val s.val) fun s _ s' _ h => oSet_disjoint c c s s' (Or.inr h)

/-! ## What the handshakes carry -/

section Payload

variable (W : Dev nD → Valuation τ sig (Elt F))

/-- What a task starts from and what it ends with, at the contents `W` the call finds. -/
abbrev goW (d : Dev nD) (c : Fin 2) (s : Fin 16) : sProp 𝕄 := goPts d (shareOf c s) (W d main_v26) (W d main_v25) (W d main_v27) c.val s.val
abbrev tdW (d : Dev nD) (c : Fin 2) (s : Fin 16) : sProp 𝕄 := tdPts d (W d main_v26) (W d main_v25) c.val s.val

/-- The call takes its tasks' parts to them and back. -/
def P : (K (F := F)).Pay (nD := nD) (Val := Elt F) (Name := ℕ) (U := UU) where
  st := fun q d c => match q with | 0 => bigSep Finset.univ fun s : Fin 16 => goW W d (Fin.cast nCore_zero c) s
  dn := fun q d c => match q with | 0 => bigSep Finset.univ fun s : Fin 16 => tdW W d (Fin.cast nCore_zero c) s
  go := fun q d c i => match q with | 0 => goW W d (Fin.cast nCore_zero c) (Fin.cast nSub_zero i)
  td := fun q d c i => match q with | 0 => tdW W d (Fin.cast nCore_zero c) (Fin.cast nSub_zero i)
  x := fun _ _ => iprop(emp)

instance P_storable : (P W).IsStorable where
  st q d _ := match q with | 0 => (inferInstance : BI.Storable (upEmb : UEmb _ 𝕄) (bigSep Finset.univ fun s : Fin 16 => goW W d _ s))
  dn q d _ := match q with | 0 => (inferInstance : BI.Storable (upEmb : UEmb _ 𝕄) (bigSep Finset.univ fun s : Fin 16 => tdW W d _ s))
  go q d _ _ := match q with | 0 => (inferInstance : BI.Storable (upEmb : UEmb _ 𝕄) (goW W d _ _))
  td q d _ _ := match q with | 0 => (inferInstance : BI.Storable (upEmb : UEmb _ 𝕄) (tdW W d _ _))

/-! ## The launch theorem's obligations -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_k (coordsV c s)
          tV (Memref.isWhole_whole _) iV (Memref.isWhole_whole _) oV (Memref.isWhole_whole _)
          sT (Memref.isWhole_whole _) sI (Memref.isWhole_whole _) sO (Memref.isWhole_whole _) cc1_scoped0 cc1_scoped1 cc1_scoped2) ⟨⟩ c s := rfl

omit [FloatOps F] in
/-- A task that waits at no index but its own records no wait beyond those allowed. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- Nothing, in second place, dropped. -/
theorem drop_emp {A C : sProp 𝕄} : iprop(A ∗ iprop(emp) ∗ C) ⊢ iprop(A ∗ C) := by
  iintro ⟨Hl, -, Hr⟩
  isplitl [Hl]; · iexact Hl
  iexact Hr

/-- Every task runs from its part to its part's result. -/
theorem tileObl (hF : (K (F := F)).Facts) (hI : ∀ d, InTable (n := 12288) (W d main_v25)) : (K (F := F)).TileObl (D (F := F)) 𝒱 (P W) v₀ 0 := by
  intro d c i O W' hO _ _
  simp only [show (P W).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have h := (tile_body d (coordsV ⟨_, hc.1⟩ ⟨_, hc.2⟩) hF (shareOf (Fin.cast nCore_zero c) (Fin.cast nSub_zero i)) (W d main_v26) (W d main_v25) (W d main_v27) (hI d) O W' hO).trans
    (wp_mono frame _ _ fun _ => obl_post (q := 0))
  generalize cc1_k (F := F) (coordsV ⟨_, hc.1⟩ ⟨_, hc.2⟩) tV (Memref.isWhole_whole _) iV (Memref.isWhole_whole _) oV (Memref.isWhole_whole _)
          sT (Memref.isWhole_whole _) sI (Memref.isWhole_whole _) sO (Memref.isWhole_whole _) cc1_scoped0 cc1_scoped1 cc1_scoped2 = prog at h ⊢
  exact BI.Entails.trans drop_emp h

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call hands a SparseCore is its tasks' parts, and what it takes back is their results. -/
theorem vecSplit : (K (F := F)).VecSplit' (P W) 0 := by
  intro d c
  show (bigSep Finset.univ fun s : Fin 16 => goW W d (Fin.cast nCore_zero c) s) ⊢ |={Set.univ}=> iprop(
      (bigSep Finset.univ fun i : Fin ((K (F := F)).nSub 0) => goW W d (Fin.cast nCore_zero c) (Fin.cast nSub_zero i))
      ∗ ((bigSep Finset.univ fun i : Fin ((K (F := F)).nSub 0) => tdW W d (Fin.cast nCore_zero c) (Fin.cast nSub_zero i))
          -∗ bigSep Finset.univ fun s : Fin 16 => tdW W d (Fin.cast nCore_zero c) s))
  rw [bigSep_tasks (F := F) (fun i => goW W d (Fin.cast nCore_zero c) i), bigSep_tasks (F := F) (fun i => tdW W d (Fin.cast nCore_zero c) i)]
  iintro H; imodintro
  isplitl [H]; · iexact H
  iintro H; iexact H

/-! ## The launch element of the ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

omit [FloatOps F] in
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

/-- What the launch deals the TensorCore for the pipelined call. -/
abbrev G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P W).x q thr) := by
  unfold u₀
  iintro Hu
  ihave H := (ownU_split _ _) $$ Hu
  icases H with ⟨HH, HK⟩
  imod (Pipeline.fund_ghost (Pipeline.pin (pcfgs (F := F)) adm) EP cellOf_inj) $$ HK with ⟨Hc, Ht⟩
  imodintro
  isplitl [HH]; · iexact HH
  isplitl [Hc Ht]
  · unfold G; rw [bigSep_sep']
    isplitl [Hc]
    · iapply (Entails.of_eq (bigSep_congr fun d _ => bigSep_univ_of_subsingleton (0 : Fin 1))) $$ Hc
    · iapply (Entails.of_eq (bigSep_congr fun d _ => bigSep_univ_of_subsingleton (0 : Fin 1))) $$ Ht
  rw [show (bigSep Finset.univ fun thr : Thread nD τ => bigSep Finset.univ fun q : Fin 1 => (P W).x q thr) = iprop(emp) from
    (bigSep_congr fun _ _ => bigSep_emp' _).trans (bigSep_emp' _)]
  iempintro

theorem st0_eq (d : Dev nD) : (bigSep Finset.univ fun c : Fin ((K (F := F)).nCore 0) => (P W).st 0 d c)
    = bigSep Finset.univ fun c : Fin 2 => bigSep Finset.univ fun s : Fin 16 => goW W d c s :=
  bigSep_cores (F := F) fun c => bigSep Finset.univ fun s : Fin 16 => goW W d c s
theorem dn0_eq (d : Dev nD) : (bigSep Finset.univ fun c : Fin ((K (F := F)).nCore 0) => (P W).dn 0 d c)
    = bigSep Finset.univ fun c : Fin 2 => bigSep Finset.univ fun s : Fin 16 => tdW W d c s :=
  bigSep_cores (F := F) fun c => bigSep Finset.univ fun s : Fin 16 => tdW W d c s

/-- The call's three arrays are what it hands out … -/
theorem call_in (d : Dev nD) :
    iprop((tLoc d ↦{fullShare} W d main_v26) ∗ (iLoc d ↦{fullShare} W d main_v25) ∗ (oLoc d ↦{fullShare} W d main_v27))
      ⊢ (bigSep Finset.univ fun c : Fin ((K (F := F)).nCore 0) => (P W).st 0 d c : sProp 𝕄) := by
  rw [st0_eq]
  simp only [goW, goPts, bigSep_sep']
  rw [← iPts_deal, ← oPts_deal]
  exact sep_mono_left (table_deal d _)
/-- … and what comes back is its result. -/
theorem call_out (d : Dev nD) :
    (bigSep Finset.univ fun c : Fin ((K (F := F)).nCore 0) => (P W).dn 0 d c : sProp 𝕄)
      = (oLoc d ↦{fullShare} (gathered (W d main_v26) (W d main_v25) : Buf (Elt F) (oLoc d))) := by
  rw [dn0_eq, oPts_deal]

end Payload

end Cert.Proof

end
-- ==== Proof.Main.lean ====
/-
  @main on the TensorCore — the pipelined call between the first two lists of host operations, the gather call between the
  last two — and the program's run.
-/
module

public import proofs.«01_k».proof.Proof.Launch

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq seqK)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents along @main -/

/-- At the start, after the first list, at the gather call, after it, and at the end. -/
def val0 (d : Dev nD) : Valuation τ sig (Elt F) := fun b => m (d, b)
def val1 (d : Dev nD) : Valuation τ sig (Elt F) := after ops0 (val0 m d)
def val3 (d : Dev nD) : Valuation τ sig (Elt F) := after ops1 (Vreg (val1 m) d)
def val4 (d : Dev nD) : Valuation τ sig (Elt F) :=
  Function.update (val3 m d) (Proc.devRef .tc main_v27) (gathered (val3 m d main_v26) (val3 m d main_v25))
def val5 (d : Dev nD) : Valuation τ sig (Elt F) := after ops2 (val4 m d)

theorem val4_self (d : Dev nD) : val4 m d (Proc.devRef .tc main_v27) = gathered (val3 m d main_v26) (val3 m d main_v25) := Function.update_self ..
theorem val4_of_ne (d : Dev nD) (b : DevRef τ sig) (h : b ≠ Proc.devRef .tc main_v27) : val4 m d b = val3 m d b := Function.update_of_ne h ..

/-- The arguments end as they started. -/
theorem val5_arg (d : Dev nD) (r : Ref sig .tc) (h0 : r ∉ writes0) (h1 : r ∉ writes1) (h2 : r ∉ writes2) (h3 : r ≠ main_v2) (h4 : r ≠ main_v27) :
    val5 m d (Proc.devRef .tc r) = m ((d.tc : Thread nD τ).loc r) := by
  unfold val5; rw [after2_keep _ r h2, val4_of_ne _ _ _ fun e => h4 (Proc.devRef_injective _ e)]
  unfold val3; rw [after1_keep _ r h1, Vreg_of_ne _ _ r h3]
  unfold val1; rw [after0_keep _ r h0]; rfl

/-- The indices the gather call finds leave room in the table. -/
theorem val3_inTable (d : Dev nD) : InTable (n := 12288) (val3 m d main_v25) := by
  unfold val3; rw [after1_v25]; exact indices_inTable _

/-! ## The buffers kept past the gather call -/

/-- The gather call's three arrays. -/
def callRefs : Finset (DevRef τ sig) := {Proc.devRef .tc main_v26, Proc.devRef .tc main_v25, Proc.devRef .tc main_v27}
/-- Every other unscoped buffer, and with the call's result. -/
def restRefs : Finset (DevRef τ sig) := Pipeline.ucRefs τ sig \ callRefs
def keptRefs : Finset (DevRef τ sig) := insert (Proc.devRef .tc main_v27) restRefs

theorem mem_uc (r : Ref sig .tc) (h : r.isScoped = false) : Proc.devRef .tc r ∈ Pipeline.ucRefs τ sig :=
  Finset.mem_filter.mpr ⟨StableHlo.devRef_mem_tcRefs r, by
    intro h'
    have : (Proc.devRef (τ := τ) .tc r).isScoped = r.isScoped := rfl
    rw [this, h] at h'; exact Bool.false_ne_true h'⟩
theorem callRefs_sub : callRefs ⊆ Pipeline.ucRefs τ sig := by
  intro b hb
  simp only [callRefs, Finset.mem_insert, Finset.mem_singleton] at hb
  rcases hb with rfl | rfl | rfl
  · exact mem_uc main_v26 (by decide)
  · exact mem_uc main_v25 (by decide)
  · exact mem_uc main_v27 (by decide)
theorem v27_notMem : Proc.devRef .tc main_v27 ∉ restRefs := fun h =>
  (Finset.mem_sdiff.mp h).2 (by simp [callRefs])
theorem mem_rest (r : Ref sig .tc) (h : r.isScoped = false) (h1 : r ≠ main_v26) (h2 : r ≠ main_v25) (h3 : r ≠ main_v27) :
    Proc.devRef .tc r ∈ restRefs :=
  Finset.mem_sdiff.mpr ⟨mem_uc r h, by
    simp only [callRefs, Finset.mem_insert, Finset.mem_singleton, not_or]
    exact ⟨fun e => h1 (Proc.devRef_injective _ e), fun e => h2 (Proc.devRef_injective _ e), fun e => h3 (Proc.devRef_injective _ e)⟩⟩
theorem mem_kept (r : Ref sig .tc) (h : r.isScoped = false) (h1 : r ≠ main_v26) (h2 : r ≠ main_v25) : Proc.devRef .tc r ∈ keptRefs := by
  by_cases h3 : r = main_v27
  · subst h3; exact Finset.mem_insert_self _ _
  · exact Finset.mem_insert_of_mem (mem_rest r h h1 h2 h3)

theorem ops2_sub : ∀ op ∈ ops2 (F := F), op.bufs ⊆ keptRefs := by
  rw [← List.forall_iff_forall_mem]
  refine ⟨?_, ?_⟩
  · intro b hb
    have hb' : b ∈ ({Proc.devRef .tc main_v27, Proc.devRef .tc main_v28} : Finset (DevRef τ sig)) := by
      simpa [StableHlo.unary, HloOp.bufs] using hb
    simp only [Finset.mem_insert, Finset.mem_singleton] at hb'
    rcases hb' with rfl | rfl
    · exact mem_kept main_v27 (by decide) (by decide) (by decide)
    · exact mem_kept main_v28 (by decide) (by decide) (by decide)
  · intro b hb
    have hb' : b ∈ ({Proc.devRef .tc main_v28, Proc.devRef .tc main_v29} : Finset (DevRef τ sig)) := by
      simpa [StableHlo.reshape, HloOp.bufs] using hb
    simp only [Finset.mem_insert, Finset.mem_singleton] at hb'
    rcases hb' with rfl | rfl
    · exact mem_kept main_v28 (by decide) (by decide) (by decide)
    · exact mem_kept main_v29 (by decide) (by decide) (by decide)

/-- The unscoped buffers before the gather call: its three arrays and the rest. -/
theorem held_call (d : Dev nD) (V : Valuation τ sig (Elt F)) :
    (held (d.tc : Thread nD τ) (Pipeline.ucRefs τ sig) V : sProp 𝕄)
      = iprop(((tLoc d ↦{fullShare} V main_v26) ∗ (iLoc d ↦{fullShare} V main_v25) ∗ (oLoc d ↦{fullShare} V main_v27))
          ∗ held (d.tc : Thread nD τ) restRefs V) := by
  rw [StableHlo.held_sub_split _ callRefs_sub]
  congr 1
  unfold held callRefs
  rw [SparseCore.bigSep_insert' (by decide), SparseCore.bigSep_insert' (by decide), bigSep_singleton]

/-- The kept buffers after it: the result written, the rest as they were. -/
theorem held_kept (d : Dev nD) :
    (held (d.tc : Thread nD τ) keptRefs (val4 m d) : sProp 𝕄)
      = iprop((oLoc d ↦{fullShare} (gathered (val3 m d main_v26) (val3 m d main_v25) : Buf (Elt F) (oLoc d))) ∗ held (d.tc : Thread nD τ) restRefs (val3 m d)) := by
  rw [← StableHlo.held_congr (d.tc : Thread nD τ) (S := restRefs) (V := val4 m d) (V' := val3 m d)
    fun b hb => val4_of_ne m d b fun e => v27_notMem (e ▸ hb)]
  unfold held keptRefs
  rw [SparseCore.bigSep_insert' v27_notMem, val4_self]

/-! ## The pipelined call -/

omit [FloatOps F] in
/-- What the core owes, out of its state before the gather call, and back. -/
theorem tcSt_owes (d : Dev nD) :
    ((K (F := F)).tcSt EH d 0 : sProp 𝕄) ⊢ iprop(owesTc (F := F) d ∗ (owesTc (F := F) d -∗ (K (F := F)).tcSt EH d 0)) := by
  unfold SparseCore.Cfg.tcSt owesTc
  iintro ⟨H, Hr⟩
  isplitl [H]; · iexact H
  iintro H
  isplitl [H]; · iexact H
  iexact Hr

/-- The pipelined call as a step of @main. -/
theorem region_step (V : Dev nD → Valuation τ sig (Elt F)) (d : Dev nD) (Q : PUnit → sProp 𝕄) :
    iprop((iprop(boundary (d.tc : Thread nD τ) ∗ iprop(unscopedBufs d (fun b => Vreg V d b) ∗ owesTc (F := F) d)) -∗ Q ⟨⟩)
        ∗ boundary (d.tc : Thread nD τ) ∗ iprop(unscopedBufs d (fun b => V d b) ∗ owesTc (F := F) d) ∗ levAts (K (F := F)).L (K (F := F)).lev ∗ G (F := F) d)
      ⊢ wp frame (wpE ((K (F := F)).defs (D (F := F))) 𝒱 (d.tc : Thread nD τ) none) Set.univ
          (Prog.lift (.customCall (SparseCore.inner (Pipeline.entry 0)) ())) Q := by
  have h1 := (K (F := F)).wp_liftProg (D (F := F)) 𝒱 (d.tc : Thread nD τ) (Set.univ : Set ℕ) none
    (Prog.op (.customCall (Pipeline.entry (P := Fin 1) 0) ()) fun u => (Pure.pure u : Prog (TpuEff nD τ sig (Elt F) (ΛP (F := F)) .tc) PUnit)) Q
  have h2 := Pipeline.RegionSeg.wp (pcfgs (F := F)) adm (pdats V) (none : HIx 1) cellOf_inj EP (defs₀ (F := F)) Variants.none (K (F := F)).L (K (F := F)).lev
    (reg V) d none (fun u hu => nomatch hu) (fun u => (Pure.pure u : Prog (TpuEff nD τ sig (Elt F) (ΛP (F := F)) .tc) PUnit)) Q
  rw [show (reg V).pre d = iprop(unscopedBufs d (fun b => V d b) ∗ owesTc (F := F) d) from rfl,
    show (reg V).post d = iprop(unscopedBufs d (fun b => Vreg V d b) ∗ owesTc (F := F) d) from rfl] at h2
  refine (?_ : _ ⊢ _).trans (h2.trans h1)
  rw [wp_pure]
  iintro ⟨Hk, Hb, Hp, Hl, Hg⟩
  isplitl [Hk]
  · iintro H
    imodintro
    iapply Hk $$ H
  isplitl [Hb]; · iexact Hb
  isplitl [Hp]; · iexact Hp
  isplitl [Hl]; · iexact Hl
  iexact Hg

/-! ## @main -/

/-- What @main leaves: the kept buffers at the last contents. -/
abbrev FIN (d : Dev nD) : sProp 𝕄 := held (d.tc : Thread nD τ) keptRefs (val5 m d)

theorem hmain (κ : GSem nD τ sig → ℕ) (d : Dev nD) :
    iprop((K (F := F)).ctx EH (P (val3 m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, ← StableHlo.seq_bind_seqK ops0, ← StableHlo.seq_bind_seqK ops1, ← StableHlo.seq_bind_seqK ops2]
  rw [show (unscopedBufs d (fun b => m ((SparseCore.T d).loc b)) : sProp 𝕄) = held (d.tc : Thread nD τ) (Pipeline.ucRefs τ sig) (val0 m d) from
    Pipeline.unscopedBufs_held d (val0 m d)]
  iintro ⟨#Hctx, Hst, ⟨Hb, Hub, Hts, -⟩, HG⟩
  iapply (StableHlo.wp_seq 𝒱 none Set.univ d (Pipeline.ucRefs τ sig) _ ops0 ops0_sub ops0_fresh (val0 m d)) $$ [Hb Hub]
  · isplitl [Hb]; · iexact Hb
    iexact Hub
  iintro ⟨Hb, Hub⟩
  rw [wp_bind]
  ihave Hst' := (tcSt_owes d) $$ Hst
  icases Hst' with ⟨HO, Hst⟩
  iapply (region_step (val1 m) d _)
  isplitr [Hb Hub HO HG]
  · iintro ⟨Hb, Hub, HO⟩
    ihave Hst := Hst $$ HO
    ihave Hub := (Entails.of_eq (Pipeline.unscopedBufs_held d (Vreg (val1 m) d))) $$ Hub
    iapply (StableHlo.wp_seq 𝒱 none Set.univ d (Pipeline.ucRefs τ sig) _ ops1 ops1_sub ops1_fresh (Vreg (val1 m) d)) $$ [Hb Hub]
    · isplitl [Hb]; · iexact Hb
      iexact Hub
    iintro ⟨Hb, Hub⟩
    ihave Hub := (show held (d.tc : Thread nD τ) (Pipeline.ucRefs τ sig) (after ops1 (Vreg (val1 m) d)) ⊢ _ from Entails.of_eq (held_call d (val3 m d))) $$ Hub
    icases Hub with ⟨Hc, Hr⟩
    rw [wp_bind]
    iapply ((K (F := F)).wp_run (D (F := F)) 𝒱 (EH := EH) (P := P (val3 m)) κ d 0)
    isplitr; · iexact Hctx
    isplitl [Hst]; · iexact Hst
    isplitl [Hc]
    · iapply (call_in (val3 m) d); iexact Hc
    iintro ⟨Hst, Hdn⟩
    ihave Ho := (Entails.of_eq (call_out (val3 m) d)) $$ Hdn
    iapply (StableHlo.wp_seq 𝒱 none Set.univ d keptRefs _ ops2 ops2_sub ops2_fresh (val4 m d)) $$ [Hb Ho Hr]
    · isplitl [Hb]; · iexact Hb
      iapply (Entails.of_eq (held_kept m d).symm)
      isplitl [Ho]; · iexact Ho
      iexact Hr
    iintro ⟨Hb, Hk⟩
    rw [wp_pure]
    imodintro
    isplitl [Hst]; · iexact Hst
    isplitl [Hk]
    · iapply (show held (d.tc : Thread nD τ) keptRefs (after ops2 (val4 m d)) ⊢ FIN m d from BI.Entails.refl _) $$ Hk
    isplitl [Hb] <;> iassumption
  isplitl [Hb]; · iexact Hb
  isplitl [Hub HO]
  · isplitl [Hub]
    · iapply (Entails.of_eq (Pipeline.unscopedBufs_held d (val1 m d)).symm); iexact Hub
    · iexact HO
  isplitr
  · iapply ((K (F := F)).ctx_levAts κ); iexact Hctx
  iexact HG

/-- The last contents, read off the final state. -/
def fq (d : Dev nD) (s' : Phys nD τ sig (Elt F)) : Prop := ∀ b ∈ keptRefs, s'.mem.mem (d, b) = val5 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) keptRefs) $$ [HSI H]
  · isplitl [HSI]; · iexact HSI
    iexact H
  ipureintro
  exact h

/-! ## The run -/

/-- Every kept buffer at its last contents, and every counter at zero. -/
def QC : PUnit × MemSt nD τ sig (Elt F) → Prop := fun r => (∀ d : Dev nD, ∀ b ∈ keptRefs, r.2.mem (d, b) = val5 m d b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (val3 m)) (A := ∅) facts v₀
    (fun q hq => match q with | 0 => nomatch hq)
    (fun q _ => match q with | 0 => tileObl (val3 m) facts (val3_inTable m))
    (fun q _ => match q with | 0 => SparseCore.Cfg.VecSplit.of_plain (vecSplit (val3 m)))
    m ρ main (G (F := F)) (FIN m) (u₀ (F := F)) (sep_elim_left.trans (hu₀ (val3 m))) (hmain m ρ) (fq m) (hfin m) (QC m) (fun _ h hz => ⟨h, hz⟩)

end Cert.Proof

end
-- ==== Proof.Frames.lean ====
/-
  The frames: each program runs to its end, its arguments unchanged, every semaphore counter at zero.
-/
module

public import proofs.«01_k».proof.Defs
public import proofs.«01_k».proof.Proof.Main
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.SL.Sem

section Kernel

open Cert.KernelIdeal

variable {F : FTy → Type} [FloatOps F]

/-- What the kernel's run leaves: the results at the last contents, the arguments unchanged. -/
def Leaves (m : (ℓ : Loc nD τ sig) → Buf (Elt F) ℓ) (r : PUnit × MemSt nD τ sig (Elt F)) (c : Dev nD) : Prop :=
  r.2.mem ((c.tc : Thread nD τ).loc main_v3) = val5 m c main_v3
  ∧ r.2.mem ((c.tc : Thread nD τ).loc main_v29) = val5 m c main_v29
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

/-- An argument, read off the kept buffers. -/
theorem kept_arg (m : (ℓ : Loc nD τ sig) → Buf (Elt F) ℓ) (r : PUnit × MemSt nD τ sig (Elt F)) (h : QC m r) (c : Dev nD) (b : Ref sig .tc)
    (hs : b.isScoped = false) (h26 : b ≠ main_v26) (h25 : b ≠ main_v25)
    (h0 : b ∉ writes0) (h1 : b ∉ writes1) (h2 : b ∉ writes2) (h3 : b ≠ main_v2) (h4 : b ≠ main_v27) :
    r.2.mem ((c.tc : Thread nD τ).loc b) = m ((c.tc : Thread nD τ).loc b) :=
  (h.1 c _ (mem_kept b hs h26 h25)).trans (val5_arg m c b h0 h1 h2 h3 h4)

/-- The run's end, at the named buffers. -/
theorem leaves (m : (ℓ : Loc nD τ sig) → Buf (Elt F) ℓ) (r : PUnit × MemSt nD τ sig (Elt F)) (h : QC m r) (c : Dev nD) : Leaves m r c :=
  ⟨h.1 c _ (mem_kept main_v3 (by decide) (by decide) (by decide)), h.1 c _ (mem_kept main_v29 (by decide) (by decide) (by decide)),
    kept_arg m r h c main_arg0 (by decide) (by decide) (by decide) (by decide) (by decide) (by decide) (by decide) (by decide),
    kept_arg m r h c main_arg1 (by decide) (by decide) (by decide) (by decide) (by decide) (by decide) (by decide) (by decide),
    kept_arg m r h c main_arg2 (by decide) (by decide) (by decide) (by decide) (by decide) (by decide) (by decide) (by decide),
    kept_arg m r h c main_arg3 (by decide) (by decide) (by decide) (by decide) (by decide) (by decide) (by decide) (by decide),
    kept_arg m r h c main_arg4 (by decide) (by decide) (by decide) (by decide) (by decide) (by decide) (by decide) (by decide),
    kept_arg m r h c main_arg5 (by decide) (by decide) (by decide) (by decide) (by decide) (by decide) (by decide) (by decide)⟩

end Kernel

/-- `Cert.quiescent_KernelIdeal` (Defs.lean). -/
theorem frame_kernelIdeal : Cert.quiescent_KernelIdeal := fun m ρ _ =>
  (θ_run Cert.KernelIdeal.defs _ _).mono (fun r h => ⟨fun c => (leaves m r h c).2.2, h.2⟩) (run_main (F := Ideal) m ρ)

/-- The two programs' body tables are one, entry by entry. -/
theorem defs₀_eq {F : FTy → Type} [FloatOps F] : Cert.Kernel.defs₀ (F := F) = Cert.KernelIdeal.defs₀ (F := F) := by
  funext p ℓ a
  cases p with
  | tc =>
    match ℓ with
    | ⟨0, _⟩ => rfl
    | ⟨1, _⟩ => rfl
  | scScalar c =>
    match ℓ with
    | ⟨0, _⟩ => rfl
    | ⟨1, _⟩ => rfl
  | scVector c s =>
    match ℓ with
    | ⟨0, _⟩ => rfl
    | ⟨1, _⟩ => rfl

/-- The two programs' tables with the pipelines' and the calls' entries are one. -/
theorem defs_eq {F : FTy → Type} [FloatOps F] : Cert.Kernel.defs (F := F) = Cert.KernelIdeal.defs (F := F) :=
  congrArg (fun D => (Cert.KernelIdeal.sc (F := F)).defs (Pipeline.defs Cert.KernelIdeal.pcfgs D)) defs₀_eq

/-- The two programs are one. -/
theorem prog_eq {F : FTy → Type} [FloatOps F] : @Cert.Kernel.main F _ _ = @Cert.KernelIdeal.main F _ _ := rfl
theorem threads_eq {F : FTy → Type} [FloatOps F] : Cert.Kernel.threads (F := F) = Cert.KernelIdeal.threads (F := F) :=
  congrArg (fun p => (Cert.KernelIdeal.sc (F := F)).threads p) prog_eq

/-- A run of one program under one table is a run of the other under the other. -/
theorem run_transport {F : FTy → Type} [FloatOps F] (s : MemSt Cert.KernelIdeal.nD Cert.KernelIdeal.τ Cert.KernelIdeal.sig (Elt F))
    (Q : PUnit × MemSt Cert.KernelIdeal.nD Cert.KernelIdeal.τ Cert.KernelIdeal.sig (Elt F) → Prop)
    (h : θ_run (Cert.KernelIdeal.defs (F := F)) (Cert.KernelIdeal.threads (F := F)) s Q) :
    θ_run (Cert.Kernel.defs (F := F)) (Cert.Kernel.threads (F := F)) s Q :=
  (congrArg₂ (fun D t => θ_run D t s Q) (defs_eq (F := F)) (threads_eq (F := F))).mpr h

/-- `Cert.quiescent_Kernel` (Defs.lean): the run at the hardware's values. -/
theorem frame_kernel : Cert.quiescent_Kernel := fun m ρ _ => by
  have h : θ_run (Cert.KernelIdeal.defs (F := Bits)) (Cert.KernelIdeal.threads (F := Bits)) ⟨m, fun _ => 0, ρ⟩
      (fun r => (∀ c : Dev Cert.KernelIdeal.nD, (
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)))
        ∧ r.2.sem = fun _ => 0) :=
    (θ_run Cert.KernelIdeal.defs _ _).mono (fun r h => ⟨fun c => (leaves (F := Bits) m r h c).2.2, h.2⟩) (run_main (F := Bits) m ρ)
  exact run_transport _ _ h

/-- `Cert.quiescent_ReferenceIdeal` (Defs.lean). -/
theorem frame_referenceIdeal : Cert.quiescent_ReferenceIdeal := fun m ρ _ =>
  (θ_run Cert.ReferenceIdeal.defs _ _).mono (fun _ h => ⟨fun c => (h c).2.2, sem_eq_zero_of_no_sems (by decide) _⟩) (Cert.ReferenceIdeal.Value.run (F := Ideal) m ρ)

end Cert.Proof

end
-- ==== Proof.Rank.lean ====
/-
  The greatest elements of a row as the host's top-k takes them: one order of the row, positions below it carrying the
  values and their positions in the row, decreasing at the ideal floats.
-/
module

public import Idealize.ShloMosaic.Lib.SortFacts
public import Idealize.ShloMosaic.Lib.ValueIdx
public import Idealize.ShloMosaic.Lib.Pipeline.Value
public import Idealize.ShloMosaic.PureOps.Ideal.Laws

@[expose] public section

noncomputable section

namespace Cert.Proof

open Idealize.ShloMosaic Idealize.ShloMosaic.ValueIdx

variable {A B N K : ℕ}

/-- The positions of a row of floats in the order in which top-k lists them. -/
def order (x : Fin N → Ideal .f32) : Fin N → Fin N :=
  sortedFrom fun k k' => FloatOps.cmpfTotal .gt (x k) (x k') == 1#1

theorem order_injective (x : Fin N → Ideal .f32) : Function.Injective (order x) := sortedFrom_injective _

/-- Every position is listed. -/
theorem order_surjective (x : Fin N → Ideal .f32) : Function.Surjective (order x) := sortedFrom_surjective _

theorem gt_true (a b : Ideal .f32) : (FloatOps.cmpfTotal .gt a b == 1#1) = decide ((b : EReal) < a) := by
  rw [Ideal.cmpfTotal_def]
  show (BitVec.ofBool (decide ((b : EReal) < a)) == 1#1) = _
  cases decide ((b : EReal) < a) <;> rfl

/-- The listed values decrease. -/
theorem order_antitone (x : Fin N → Ideal .f32) (i j : Fin N) (h : i ≤ j) : (x (order x j) : EReal) ≤ x (order x i) := by
  rcases h.eq_or_lt with rfl | h
  · exact le_rfl
  have key := sortedFrom_noInversion (fun k k' => FloatOps.cmpfTotal .gt (x k) (x k') == 1#1)
    (fun k k' => FloatOps.cmpfTotal .gt (x k) (x k') == 1#1)
    (fun a b => by simp only [gt_true, decide_eq_true_eq, decide_eq_false_iff_not]; exact fun h => h.asymm)
    (fun a b h => h)
    (fun a b c => by simp only [gt_true, decide_eq_false_iff_not, not_lt]; exact fun h1 h2 => h1.trans h2) i j h
  rw [gt_true, decide_eq_false_iff_not, not_lt] at key
  exact key

theorem along_row (b : Fin A) (n : Fin B) (m k : Fin N) :
    Shape.Idx.along (s := ⟨3, ![A, B, N]⟩) (ix3 b n m) (2 : Fin 3) k = ix3 b n k := by
  funext a
  match a with
  | ⟨0, _⟩ => rfl
  | ⟨1, _⟩ => rfl
  | ⟨2, _⟩ => rfl

/-- The host's sort of the row through an index is that row's order. -/
theorem sorted_row (x : FVec Ideal ⟨3, ![A, B, N]⟩ .f32) (b : Fin A) (n : Fin B) (m : Fin N) :
    (sortedFrom fun k k' : Fin N => FloatOps.cmpfTotal .gt (x (Shape.Idx.along (s := ⟨3, ![A, B, N]⟩) (ix3 b n m) (2 : Fin 3) k))
      (x (Shape.Idx.along (s := ⟨3, ![A, B, N]⟩) (ix3 b n m) (2 : Fin 3) k')) == 1#1) = order fun k => x (ix3 b n k) := by
  unfold order
  congr 1
  funext k k'
  rw [along_row, along_row]

/-- Top-k's values along the last axis of a box. -/
theorem topK_value (x : FVec Ideal ⟨3, ![A, B, N]⟩ .f32) (h) (b : Fin A) (n : Fin B) (i : Fin K) (i' : Fin N) (e : i'.val = i.val) :
    (Host.topK ⟨3, ![A, B, K]⟩ 2 (FloatOps.cmpfTotal .gt) x h).1 (ix3 b n i) = x (ix3 b n (order (fun k => x (ix3 b n k)) i')) := by
  unfold Host.topK
  dsimp only
  rw [extractStridedSlice_apply _ _ h (ix3 b n i) (ix3 b n i')]
  · show x (Shape.Idx.along (s := ⟨3, ![A, B, N]⟩) (ix3 b n i') (2 : Fin 3) (sortedFrom _ i')) = _
    exact (congrArg x (along_row b n i' _)).trans (congrArg (fun p : Fin N → Fin N => x (ix3 b n (p i'))) (sorted_row x b n i'))
  · intro a
    match a with
    | ⟨0, _⟩ => exact (Nat.zero_add _).symm
    | ⟨1, _⟩ => exact (Nat.zero_add _).symm
    | ⟨2, _⟩ => exact e.trans (Nat.zero_add _).symm

/-- Top-k's indices along the last axis of a box. -/
theorem topK_index (x : FVec Ideal ⟨3, ![A, B, N]⟩ .f32) (h) (b : Fin A) (n : Fin B) (i : Fin K) (i' : Fin N) (e : i'.val = i.val) :
    (Host.topK ⟨3, ![A, B, K]⟩ 2 (FloatOps.cmpfTotal .gt) x h).2 (ix3 b n i) = BitVec.ofNat 32 (order (fun k => x (ix3 b n k)) i').val := by
  unfold Host.topK
  dsimp only
  rw [extractStridedSlice_apply _ _ h (ix3 b n i) (ix3 b n i')]
  · show BitVec.ofNat 32 ((Shape.Idx.along (s := ⟨3, ![A, B, N]⟩) (ix3 b n i') (2 : Fin 3) (sortedFrom _ i')) (2 : Fin 3)).val = _
    exact (congrArg (fun j : (⟨3, ![A, B, N]⟩ : Shape).Idx => BitVec.ofNat 32 (j (2 : Fin 3)).val) (along_row b n i' _)).trans
      (congrArg (fun p : Fin N → Fin N => BitVec.ofNat 32 (p i').val) (sorted_row x b n i'))
  · intro a
    match a with
    | ⟨0, _⟩ => exact (Nat.zero_add _).symm
    | ⟨1, _⟩ => exact (Nat.zero_add _).symm
    | ⟨2, _⟩ => exact e.trans (Nat.zero_add _).symm

end Cert.Proof

end
-- ==== Proof.Net.lean ====
/-
  The TensorCore body's running three largest, as a recursion: one step per chunk of 128 columns, then halvings of the lanes.
-/
module

public import proofs.«01_k».proof.Proof.Body

@[expose] public section

noncomputable section

namespace Cert.Proof

open Cert.KernelIdeal Cert.KernelIdeal.Gen

open Idealize.ShloMosaic Idealize.ShloMosaic.TcCoe

variable {F : FTy → Type} [FloatOps F]

/-- 2048 rows of `w` lanes. -/
abbrev R (w : ℕ) : Shape := ⟨2, ![2048, w]⟩

/-- The three running maxima, 2048 rows of `w` lanes each. -/
abbrev Top (F : FTy → Type) (w : ℕ) : Type := FVec F (R w) .f32 × FVec F (R w) .f32 × FVec F (R w) .f32

theorem chunk_fits (n : ℕ) : S2048x4096.Slices ![0, 128 * (n % 32)] S2048x128 :=
  ⟨rfl, fun a => by
    match a with
    | ⟨0, _⟩ => exact Nat.le_of_eq rfl
    | ⟨1, _⟩ =>
      have h := Nat.mod_lt n (show 0 < 32 by decide)
      show 128 * (n % 32) + 128 ≤ 4096
      omega⟩

/-- Chunk `n` of the scores' columns. -/
def chunk (s : FVec F S2048x4096 .f32) (n : ℕ) : V128 F := extractStridedSlice S2048x128 ![0, 128 * (n % 32)] s (chunk_fits n)

/-- One step: a chunk inserted into the running maxima. -/
def step (x : V128 F) (t : Top F 128) : Top F 128 :=
  (maximumf t.1 x, maximumf t.2.1 (minimumf t.1 x), maximumf t.2.2 (minimumf t.2.1 (minimumf t.1 x)))

/-- The running maxima after the first `n` chunks. -/
def net (s : FVec F S2048x4096 .f32) : ℕ → Top F 128
  | 0 => (k0_pay8, k0_pay8, k0_pay8)
  | n + 1 => step (chunk s n) (net s n)

theorem low_fits (w : ℕ) : (R (2 * w)).Slices ![0, 0] (R w) :=
  ⟨rfl, fun a => by
    match a with
    | ⟨0, _⟩ => exact Nat.le_of_eq rfl
    | ⟨1, _⟩ => show 0 + w ≤ 2 * w; omega⟩
theorem high_fits (w : ℕ) : (R (2 * w)).Slices ![0, w] (R w) :=
  ⟨rfl, fun a => by
    match a with
    | ⟨0, _⟩ => exact Nat.le_of_eq rfl
    | ⟨1, _⟩ => show w + w ≤ 2 * w; omega⟩

/-- The lower half of the lanes. -/
def low (w : ℕ) (x : FVec F (R (2 * w)) .f32) : FVec F (R w) .f32 := extractStridedSlice (R w) ![0, 0] x (low_fits w)
/-- The upper half of the lanes. -/
def high (w : ℕ) (x : FVec F (R (2 * w)) .f32) : FVec F (R w) .f32 := extractStridedSlice (R w) ![0, w] x (high_fits w)

/-- The lanes' two halves joined. -/
def halve (w : ℕ) (t : Top F (2 * w)) : Top F w :=
  (maximumf (low w t.1) (high w t.1),
    maximumf (minimumf (low w t.1) (high w t.1)) (maximumf (low w t.2.1) (high w t.2.1)),
    maximumf (maximumf (minimumf (minimumf (low w t.1) (high w t.1)) (maximumf (low w t.2.1) (high w t.2.1))) (minimumf (low w t.2.1) (high w t.2.1)))
      (maximumf (low w t.2.2) (high w t.2.2)))

/-- What the body carries from one of its parts to the next, amid chunk `n`. -/
def held (s : FVec F S2048x4096 .f32) (n : ℕ) : V128 F × V128 F × V128 F × V128 F × V128 F :=
  ((net s n).2.1, (net s n).2.2, (net s (n + 1)).1, minimumf (net s n).1 (chunk s n), (net s (n + 1)).2.1)

set_option maxRecDepth 8192 in
theorem part2_eq (q : Vec F S1x128x2048 .f32) (k : Vec F S1x128x4096 .f32) : part2 q k = held (scores q k) 7 := rfl

set_option maxRecDepth 8192 in
theorem part3_eq (s : FVec F S2048x4096 .f32) : part3 s (held s 7) = held s 17 := rfl

set_option maxRecDepth 8192 in
theorem part4_eq (s : FVec F S2048x4096 .f32) : part4 s (held s 17) = held s 27 := rfl

/-- What the body carries after the halvings to 32 lanes. -/
def held32 (t : Top F (2 * 16)) : FVec F S2048x32 .f32 × V16 F × V16 F × V16 F × V16 F :=
  (t.2.2, low 16 t.1, high 16 t.1, low 16 t.2.1, high 16 t.2.1)
/-- What it carries after the halvings to 2 lanes. -/
def held2 (t : Top F (2 * 1)) : FVec F S2048x2 .f32 × V1 F × V1 F × V1 F × V1 F :=
  (t.2.2, low 1 t.1, high 1 t.1, low 1 t.2.1, high 1 t.2.1)

set_option maxRecDepth 8192 in
theorem part5_eq (s : FVec F S2048x4096 .f32) : part5 s (held s 27) = held32 (halve 32 (halve 64 (net s 32))) := rfl

set_option maxRecDepth 8192 in
theorem part6_eq (t : Top F (2 * 16)) : part6 (held32 t) = held2 (halve 2 (halve 4 (halve 8 (halve 16 t)))) := rfl

/-- Each row's third largest score, at the recursion's end. -/
def third (s : FVec F S2048x4096 .f32) : FVec F S2048x1 .f32 :=
  (halve 1 (halve 2 (halve 4 (halve 8 (halve 16 (halve 32 (halve 64 (net s 32)))))))).2.2

/-- The stored block from the keys' norms, the scores and each row's threshold. -/
def finish (nk : FVec F S1x4096 .f32) (s : FVec F S2048x4096 .f32) (m : FVec F S2048x1 .f32) : FVec F S1x2048x2 .f32 :=
  have ci : IVec S1x4096 32 := iota .tc S1x4096 32 [1] iota_S1x4096_d1_w32
  have rhs : FVec F S3x4096 .f32 := concatenate S3x4096 0 [⟨S1x4096, mulf nk (sitofp .f32 (shrsi ci (broadcast S1x4096 6#32)))⟩,
    ⟨S1x4096, mulf nk (sitofp .f32 (andi ci (broadcast S1x4096 63#32)))⟩, ⟨S1x4096, nk⟩] concatenates_S1x4096_S1x4096_S1x4096_S3x4096_d0
  have wm : FVec F S2048x4096 .f32 := select (cmpf .oge s (broadcastTo S2048x4096 m broadcasts_S2048x1_S2048x4096)) s
    (broadcast S2048x4096 (Scalar.ofBits .f32 0x00000000#32))
  have nums : FVec F S2048x3 .f32 := matmul dot_S2048x4096_S3x4096_S2048x3_1_1_0_0_n_n none wm rhs (constant S2048x3 .f32 0x00000000#32)
  have den : FVec F S2048x1 .f32 := extractStridedSlice S2048x1 ![0, 2] nums slices_S2048x3_o0_2_S2048x1
  shapeCast S1x2048x2 (concatenate S2048x2 1 [⟨S2048x1, divf (extractStridedSlice S2048x1 ![0, 0] nums slices_S2048x3_o0_0_S2048x1) den⟩,
    ⟨S2048x1, divf (extractStridedSlice S2048x1 ![0, 1] nums slices_S2048x3_o0_1_S2048x1) den⟩] concatenates_S2048x1_S2048x1_S2048x2_d1)
    shapeCasts_S2048x2_S1x2048x2

theorem finish_eq (nk : FVec F S1x4096 .f32) (s : FVec F S2048x4096 .f32) (t : Top F (2 * 1)) :
    k0_pay1 nk s (held2 t).1 (held2 t).2.1 (held2 t).2.2.1 (held2 t).2.2.2.1 (held2 t).2.2.2.2 = finish nk s (halve 1 t).2.2 := rfl

/-- The body's stored block through the recursion. -/
theorem corr_eq (q : Vec F S1x128x2048 .f32) (k : Vec F S1x128x4096 .f32) :
    corr q k = finish (norms k) (scores q k) (third (scores q k)) := by
  unfold corr third
  rw [part2_eq, part3_eq, part4_eq, part5_eq, part6_eq]
  exact finish_eq _ _ _

end Cert.Proof

end
-- ==== Proof.Top3.lean ====
/-
  The three largest of a family of extended reals, kept as a sorted triple: what inserting one more value, or joining two triples, leaves.
-/
module

public import Mathlib.Data.EReal.Basic
public import Mathlib.Algebra.BigOperators.Intervals
public import Mathlib.Algebra.Order.BigOperators.Group.Finset

@[expose] public section

noncomputable section

namespace Cert.Proof

/-- One where `v` is at most `a`, else zero. -/
def atLeast (v a : EReal) : ℕ := if v ≤ a then 1 else 0

/-- The sorted triple `a ≥ b ≥ c` holds the three largest of a family of which `f v` values are at least `v` (short of three, filled with −∞). -/
structure IsTop3 (f : EReal → ℕ) (a b c : EReal) : Prop where
  ab : b ≤ a
  bc : c ≤ b
  count : ∀ v, ⊥ < v → atLeast v a + atLeast v b + atLeast v c = min 3 (f v)

/-- Of no values, three times −∞. -/
theorem IsTop3.nil : IsTop3 (fun _ => 0) ⊥ ⊥ ⊥ :=
  ⟨le_rfl, le_rfl, fun v hv => by simp [atLeast, not_le.mpr hv]⟩

/-- Inserting a value into a sorted triple. -/
theorem IsTop3.insert {f : EReal → ℕ} {a b c : EReal} (h : IsTop3 f a b c) (x : EReal) :
    IsTop3 (fun v => f v + atLeast v x) (max a x) (max b (min a x)) (max c (min b (min a x))) := by
  obtain ⟨hab, hbc, hc⟩ := h
  refine ⟨?_, ?_, fun v hv => ?_⟩
  · exact max_le (hab.trans (le_max_left _ _)) ((min_le_left _ _).trans (le_max_left _ _))
  · exact max_le (hbc.trans (le_max_left _ _)) ((min_le_left _ _).trans (le_max_left _ _))
  · have h := hc v hv
    have i1 : v ≤ c → v ≤ b := fun h => h.trans hbc
    have i2 : v ≤ b → v ≤ a := fun h => h.trans hab
    simp only [atLeast, le_max_iff, le_min_iff] at h ⊢
    by_cases h1 : v ≤ a <;> by_cases h2 : v ≤ b <;> by_cases h3 : v ≤ c <;> by_cases h4 : v ≤ x <;>
      simp [h1, h2, h3, h4] at h i1 i2 ⊢ <;> omega

/-- Joining two sorted triples. -/
theorem IsTop3.join {f g : EReal → ℕ} {a b c a' b' c' : EReal} (h : IsTop3 f a b c) (h' : IsTop3 g a' b' c') :
    IsTop3 (fun v => f v + g v) (max a a') (max (min a a') (max b b'))
      (max (max (min (min a a') (max b b')) (min b b')) (max c c')) := by
  obtain ⟨hab, hbc, hc⟩ := h
  obtain ⟨hab', hbc', hc'⟩ := h'
  refine ⟨?_, ?_, fun v hv => ?_⟩
  · exact max_le ((min_le_left _ _).trans (le_max_left _ _)) (max_le_max hab hab')
  · refine max_le (max_le ((min_le_left _ _).trans (le_max_left _ _)) ?_) ((max_le_max hbc hbc').trans (le_max_right _ _))
    exact (min_le_left _ _).trans ((le_max_left _ _).trans (le_max_right _ _))
  · have h := hc v hv
    have h' := hc' v hv
    have i1 : v ≤ c → v ≤ b := fun h => h.trans hbc
    have i2 : v ≤ b → v ≤ a := fun h => h.trans hab
    have j1 : v ≤ c' → v ≤ b' := fun h => h.trans hbc'
    have j2 : v ≤ b' → v ≤ a' := fun h => h.trans hab'
    simp only [atLeast, le_max_iff, le_min_iff] at h h' ⊢
    by_cases h1 : v ≤ a <;> by_cases h2 : v ≤ b <;> by_cases h3 : v ≤ c <;>
      by_cases k1 : v ≤ a' <;> by_cases k2 : v ≤ b' <;> by_cases k3 : v ≤ c' <;>
      simp [h1, h2, h3, k1, k2, k3] at h h' i1 i2 j1 j2 ⊢ <;> omega

/-- The triple's last is at least `v` exactly when three of the values are. -/
theorem IsTop3.le_iff {f : EReal → ℕ} {a b c : EReal} (h : IsTop3 f a b c) {v : EReal} (hv : ⊥ < v) : v ≤ c ↔ 3 ≤ f v := by
  obtain ⟨hab, hbc, hc⟩ := h
  have h := hc v hv
  have i1 : v ≤ c → v ≤ b := fun h => h.trans hbc
  have i2 : v ≤ b → v ≤ a := fun h => h.trans hab
  simp only [atLeast] at h
  by_cases h1 : v ≤ a <;> by_cases h2 : v ≤ b <;> by_cases h3 : v ≤ c <;> simp [h1, h2, h3] at h i1 i2 ⊢ <;> omega

/-- A family whose three members `t 0 ≥ t 1 ≥ t 2` exceed every other: the members at least the third largest are those three. -/
theorem IsTop3.ge_iff {N : ℕ} {x : Fin N → EReal} {a b c : EReal} (h : IsTop3 (fun v => ∑ n : Fin N, atLeast v (x n)) a b c)
    (t : Fin 3 → Fin N) (ht : Function.Injective t) (h01 : x (t 1) ≤ x (t 0)) (h12 : x (t 2) ≤ x (t 1)) (hb : ⊥ < x (t 2))
    (hlt : ∀ n, (∀ i, n ≠ t i) → x n < x (t 2)) (n : Fin N) : c ≤ x n ↔ ∃ i, n = t i := by
  have cnt : ∀ v, (∑ n : Fin N, atLeast v (x n)) = (Finset.univ.filter fun n => v ≤ x n).card := fun v => by
    rw [Finset.card_filter]; rfl
  have le2 : ∀ i, x (t 2) ≤ x (t i) := fun i => by
    match i with
    | 0 => exact h12.trans h01
    | 1 => exact h12
    | 2 => exact le_rfl
  have h2c : x (t 2) ≤ c := by
    rw [h.le_iff hb, cnt]
    have : (Finset.univ.image t).card = 3 := by rw [Finset.card_image_of_injective _ ht]; rfl
    refine this.ge.trans (Finset.card_le_card fun n hn => ?_)
    obtain ⟨i, -, rfl⟩ := Finset.mem_image.mp hn
    simpa using le2 i
  have hc2 : c ≤ x (t 2) := by
    by_contra hlt2
    rw [not_le] at hlt2
    have h3 := (h.le_iff (hb.trans hlt2)).mp le_rfl
    rw [cnt] at h3
    have : (Finset.univ.filter fun n => c ≤ x n) ⊆ ({t 0, t 1} : Finset (Fin N)) := fun n hn => by
      have hn : c ≤ x n := by simpa using hn
      by_contra hno
      simp only [Finset.mem_insert, Finset.mem_singleton, not_or] at hno
      by_cases h2 : n = t 2
      · subst h2; exact absurd hn (not_le.mpr hlt2)
      · have := hlt n fun i => by
          match i with
          | 0 => exact hno.1
          | 1 => exact hno.2
          | 2 => exact h2
        exact absurd (hn.trans_lt this) (not_lt.mpr hlt2.le)
    have := Finset.card_le_card this
    have h4 : ({t 0, t 1} : Finset (Fin N)).card ≤ 2 := Finset.card_le_two
    omega
  have hc : c = x (t 2) := le_antisymm hc2 h2c
  subst hc
  constructor
  · intro hn
    by_contra hno
    push Not at hno
    exact absurd hn (not_le.mpr (hlt n hno))
  · rintro ⟨i, rfl⟩
    exact le2 i

/-- A sum over `2w` terms, by pairs `w` apart. -/
theorem sum_halves (g : ℕ → ℕ) (w : ℕ) : ∑ l ∈ Finset.range (2 * w), g l = ∑ l ∈ Finset.range w, (g l + g (w + l)) := by
  rw [two_mul, Finset.sum_range_add, Finset.sum_add_distrib]

/-- A sum over `W·K` terms, by residues modulo `W`. -/
theorem sum_columns (g : ℕ → ℕ) (W K : ℕ) :
    ∑ l ∈ Finset.range W, ∑ j ∈ Finset.range K, g (W * j + l) = ∑ n ∈ Finset.range (W * K), g n := by
  rw [Finset.sum_comm]
  induction K with
  | zero => simp
  | succ K ih => rw [Finset.sum_range_succ, ih, Nat.mul_succ, Finset.sum_range_add]

end Cert.Proof

end
-- ==== Proof.NetValue.lean ====
/-
  The running maxima at the ideal floats: each lane's triple holds the three largest of the columns it has met, so the last is the row's third largest.
-/
module

public import proofs.«01_k».proof.Proof.Net
public import proofs.«01_k».proof.Proof.Top3
public import Idealize.ShloMosaic.Lib.ValueIdx
public import Idealize.ShloMosaic.Lib.Pipeline.Value

@[expose] public section

noncomputable section

namespace Cert.Proof

open Cert.KernelIdeal Cert.KernelIdeal.Gen

open Idealize.ShloMosaic Idealize.ShloMosaic.TcCoe Idealize.ShloMosaic.ValueIdx

/-- One where `v` is at most row `r`'s score in column `n`, else zero. -/
def scoreAtLeast (s : FVec Ideal S2048x4096 .f32) (r : Fin 2048) (v : EReal) (n : ℕ) : ℕ :=
  atLeast v (s (ix2 r ⟨n % 4096, Nat.mod_lt _ (by decide)⟩))

/-- Row `r`, lane `l` of the triple holds the three largest of the family `f l`. -/
def Holds {w : ℕ} (t : Top Ideal w) (r : Fin 2048) (f : ℕ → EReal → ℕ) : Prop :=
  ∀ l : Fin w, IsTop3 (f l) (t.1 (ix2 r l)) (t.2.1 (ix2 r l)) (t.2.2 (ix2 r l))

theorem chunk_apply (s : FVec Ideal S2048x4096 .f32) (n : ℕ) (hn : n < 32) (r : Fin 2048) (l : Fin 128) :
    chunk s n (ix2 r l) = s (ix2 r ⟨(128 * n + l) % 4096, Nat.mod_lt _ (by decide)⟩) := by
  unfold chunk
  refine extractStridedSlice_apply _ _ _ _ _ fun a => ?_
  match a with
  | ⟨0, _⟩ => show r.val = 0 + r.val; omega
  | ⟨1, _⟩ =>
    have := l.isLt
    show (128 * n + l.val) % 4096 = 128 * (n % 32) + l.val
    omega

/-- After `n` chunks each lane holds the three largest of its `n` columns. -/
theorem net_holds (s : FVec Ideal S2048x4096 .f32) (r : Fin 2048) (n : ℕ) (hn : n ≤ 32) :
    Holds (net s n) r (fun l v => ∑ j ∈ Finset.range n, scoreAtLeast s r v (128 * j + l)) := by
  induction n with
  | zero =>
    intro l
    have hbot : (k0_pay8 (F := Ideal)) (ix2 r l) = (⊥ : EReal) := rfl
    show IsTop3 _ (k0_pay8 (F := Ideal) (ix2 r l)) (k0_pay8 (F := Ideal) (ix2 r l)) (k0_pay8 (F := Ideal) (ix2 r l))
    rw [hbot]
    simpa using IsTop3.nil
  | succ n ih =>
    intro l
    have h := (ih (by omega) l).insert (chunk s n (ix2 r l))
    have e : (fun v => ∑ j ∈ Finset.range (n + 1), scoreAtLeast s r v (128 * j + l))
        = fun v => (∑ j ∈ Finset.range n, scoreAtLeast s r v (128 * j + l)) + atLeast v (chunk s n (ix2 r l)) := by
      funext v
      rw [Finset.sum_range_succ, chunk_apply s n (by omega)]
      rfl
    show IsTop3 (fun v => ∑ j ∈ Finset.range (n + 1), scoreAtLeast s r v (128 * j + l)) _ _ _
    rw [e]
    exact h

theorem low_apply (w : ℕ) (x : FVec Ideal (R (2 * w)) .f32) (r : Fin 2048) (l : Fin w) :
    low w x (ix2 r l) = x (ix2 r ⟨l, by omega⟩) := by
  unfold low
  refine extractStridedSlice_apply _ _ _ _ _ fun a => ?_
  match a with
  | ⟨0, _⟩ => show r.val = 0 + r.val; omega
  | ⟨1, _⟩ => show l.val = 0 + l.val; omega
theorem high_apply (w : ℕ) (x : FVec Ideal (R (2 * w)) .f32) (r : Fin 2048) (l : Fin w) :
    high w x (ix2 r l) = x (ix2 r ⟨w + l, by omega⟩) := by
  unfold high
  refine extractStridedSlice_apply _ _ _ _ _ fun a => ?_
  match a with
  | ⟨0, _⟩ => show r.val = 0 + r.val; omega
  | ⟨1, _⟩ => rfl

/-- A halving joins the families of the lanes `w` apart. -/
theorem halve_holds {w : ℕ} {t : Top Ideal (2 * w)} {r : Fin 2048} {f : ℕ → EReal → ℕ} (h : Holds t r f) :
    Holds (halve w t) r (fun l v => f l v + f (w + l) v) := by
  intro l
  have hj := (h ⟨l, by omega⟩).join (h ⟨w + l, by omega⟩)
  simp only [← low_apply, ← high_apply] at hj
  exact hj

/-- Row `r` of the triple holds, lane by lane, the three largest of families that together have `g v` values at least `v`. -/
def Covers {w : ℕ} (t : Top Ideal w) (r : Fin 2048) (g : EReal → ℕ) : Prop :=
  ∃ f, Holds t r f ∧ ∀ v, ∑ l ∈ Finset.range w, f l v = g v

/-- A halving keeps the whole family. -/
theorem halve_covers {w : ℕ} {t : Top Ideal (2 * w)} {r : Fin 2048} {g : EReal → ℕ} (h : Covers t r g) : Covers (halve w t) r g := by
  obtain ⟨f, hf, hg⟩ := h
  exact ⟨_, halve_holds hf, fun v => ((sum_halves (fun l => f l v) w).symm).trans (hg v)⟩

/-- After the last chunk the lanes together cover the row. -/
theorem net_covers (s : FVec Ideal S2048x4096 .f32) (r : Fin 2048) :
    Covers (net s 32) r (fun v => ∑ n : Fin 4096, atLeast v (s (ix2 r n))) := by
  refine ⟨_, net_holds s r 32 le_rfl, fun v => ?_⟩
  refine (sum_columns (scoreAtLeast s r v) 128 32).trans ?_
  rw [← Fin.sum_univ_eq_sum_range]
  refine Finset.sum_congr rfl fun n _ => ?_
  have e : (⟨n.val % 4096, Nat.mod_lt _ (by decide)⟩ : Fin 4096) = n := Fin.ext (Nat.mod_eq_of_lt n.isLt)
  show atLeast v (s (ix2 r _)) = _
  rw [e]

/-- The last of the halvings leaves each row's three largest scores. -/
theorem third_holds (s : FVec Ideal S2048x4096 .f32) (r : Fin 2048) :
    ∃ a b, IsTop3 (fun v => ∑ n : Fin 4096, atLeast v (s (ix2 r n))) a b (third s (ix2 r 0)) := by
  obtain ⟨f, hf, hg⟩ := halve_covers (w := 1) (halve_covers (w := 2) (halve_covers (w := 4) (halve_covers (w := 8) (halve_covers (w := 16)
    (halve_covers (w := 32) (halve_covers (w := 64) (net_covers s r)))))))
  have h0 := hf 0
  refine ⟨_, _, (congrArg (fun f => IsTop3 f _ _ (third s (ix2 r 0))) (funext fun v => ?_)).mp h0⟩
  have e := hg v
  rw [Finset.sum_range_one] at e
  exact e

end Cert.Proof

end
-- ==== Proof.KernelValue.lean ====
/-
  The TensorCore body's arithmetic at the ideal floats, read at an index: norms, scores, and the stored block from a row's threshold.
-/
module

public import proofs.«01_k».proof.Proof.NetValue
public import Idealize.ShloMosaic.Lib.MatmulPlain

@[expose] public section

noncomputable section

namespace Cert.Proof

open Cert.KernelIdeal Cert.KernelIdeal.Gen

open Idealize.ShloMosaic Idealize.ShloMosaic.TcCoe Idealize.ShloMosaic.ValueIdx

/-! ## The problem's quantities, of vectors of 128 features -/

/-- The small number added to a norm. -/
def eps : EReal := Ideal.ofBits .f32 0x2B8CBCCC#32
/-- A feature vector's norm, plus the small number. -/
def nrm (x : Fin 128 → EReal) : EReal := Ideal.sqrt (∑ c, x c * x c) + eps
/-- The cosine similarity of two feature vectors. -/
def cosine (x y : Fin 128 → EReal) : EReal := ∑ c, Ideal.div (x c) (nrm x) * Ideal.div (y c) (nrm y)

/-! ## The sum of a column's squares, by halvings of the rows -/

section Fold
variable {F : FTy → Type} [FloatOps F]

theorem upper_fits (w m : ℕ) : (⟨2, ![w + w, m]⟩ : Shape).Slices ![0, 0] ⟨2, ![w, m]⟩ :=
  ⟨rfl, fun a => by
    match a with
    | ⟨0, _⟩ => show 0 + w ≤ w + w; omega
    | ⟨1, _⟩ => show 0 + m ≤ m; omega⟩
theorem lower_fits (w m : ℕ) : (⟨2, ![w + w, m]⟩ : Shape).Slices ![w, 0] ⟨2, ![w, m]⟩ :=
  ⟨rfl, fun a => by
    match a with
    | ⟨0, _⟩ => exact Nat.le_refl _
    | ⟨1, _⟩ => show 0 + m ≤ m; omega⟩
/-- The rows' two halves added. -/
def foldRows (w m : ℕ) (x : FVec F ⟨2, ![w + w, m]⟩ .f32) : FVec F ⟨2, ![w, m]⟩ .f32 :=
  addf (extractStridedSlice ⟨2, ![w, m]⟩ ![0, 0] x (upper_fits w m)) (extractStridedSlice ⟨2, ![w, m]⟩ ![w, 0] x (lower_fits w m))
/-- 128 rows added into one by seven halvings. -/
def foldAll (m : ℕ) (x : FVec F ⟨2, ![64 + 64, m]⟩ .f32) : FVec F ⟨2, ![1, m]⟩ .f32 :=
  foldRows 1 m (foldRows 2 m (foldRows 4 m (foldRows 8 m (foldRows 16 m (foldRows 32 m (foldRows 64 m x))))))

end Fold

theorem foldRows_apply (w m : ℕ) (x : FVec Ideal ⟨2, ![w + w, m]⟩ .f32) (a : Fin w) (n : Fin m) :
    foldRows w m x (ix2 a n) = x (ix2 (Fin.castAdd w a) n) + x (ix2 (Fin.natAdd w a) n) := by
  unfold foldRows
  refine congrArg₂ (· + ·) (extractStridedSlice_apply _ _ _ _ _ fun b => ?_) (extractStridedSlice_apply _ _ _ _ _ fun b => ?_)
  · match b with
    | ⟨0, _⟩ => show a.val = 0 + a.val; omega
    | ⟨1, _⟩ => show n.val = 0 + n.val; omega
  · match b with
    | ⟨0, _⟩ => rfl
    | ⟨1, _⟩ => show n.val = 0 + n.val; omega

/-- A halving keeps each column's sum. -/
theorem foldRows_sum (w m : ℕ) (x : FVec Ideal ⟨2, ![w + w, m]⟩ .f32) (n : Fin m) :
    ∑ a : Fin w, foldRows w m x (ix2 a n) = (∑ a : Fin (w + w), x (ix2 a n) : EReal) := by
  rw [Fin.sum_univ_add, ← Finset.sum_add_distrib]
  exact Finset.sum_congr rfl fun a _ => foldRows_apply w m x a n

/-- The seven halvings leave each column's sum. -/
theorem foldAll_apply (m : ℕ) (x : FVec Ideal ⟨2, ![64 + 64, m]⟩ .f32) (n : Fin m) :
    foldAll m x (ix2 0 n) = (∑ a : Fin 128, x (ix2 a n) : EReal) := by
  have h : foldAll m x (ix2 0 n) = (∑ a : Fin 1, foldAll m x (ix2 a n) : EReal) :=
    (Fin.sum_univ_one (fun a : Fin 1 => (foldAll m x (ix2 a n) : EReal))).symm
  rw [h]
  unfold foldAll
  refine (foldRows_sum 1 m _ n).trans <| (foldRows_sum 2 m _ n).trans <| (foldRows_sum 4 m _ n).trans <| (foldRows_sum 8 m _ n).trans <|
    (foldRows_sum 16 m _ n).trans <| (foldRows_sum 32 m _ n).trans (foldRows_sum 64 m x n)

/-! ## Norms and scores -/

/-- Query `r`'s features in the block of queries. -/
def qCol (q : Vec Ideal S1x128x2048 .f32) (r : Fin 2048) (c : Fin 128) : EReal := q (ix3 0 c r)
/-- Key `n`'s features in the block of keys. -/
def kCol (k : Vec Ideal S1x128x4096 .f32) (n : Fin 4096) (c : Fin 128) : EReal := k (ix3 0 c n)

theorem pay2_apply (q : Vec Ideal S1x128x2048 .f32) (c : Fin 128) (r : Fin 2048) : k0_pay2 q (ix2 c r) = qCol q r c := by
  unfold k0_pay2 qCol
  refine shapeCast_apply _ _ _ _ ?_
  rw [Shape.rowMajor_val_two, Shape.rowMajor_val_three]
  show (0 * 128 + c.val) * 2048 + r.val = c.val * 2048 + r.val
  omega
theorem pay3_apply (k : Vec Ideal S1x128x4096 .f32) (c : Fin 128) (n : Fin 4096) : k0_pay3 k (ix2 c n) = kCol k n c := by
  unfold k0_pay3 kCol
  refine shapeCast_apply _ _ _ _ ?_
  rw [Shape.rowMajor_val_two, Shape.rowMajor_val_three]
  show (0 * 128 + c.val) * 4096 + n.val = c.val * 4096 + n.val
  omega

theorem pay4_eq (q : Vec Ideal S1x128x2048 .f32) :
    k0_pay4 q = addf (sqrt (foldAll 2048 (mulf (k0_pay2 q) (k0_pay2 q)))) (broadcast S1x2048 (Scalar.ofBits .f32 0x2B8CBCCC#32)) := rfl
theorem pay5_eq (k : Vec Ideal S1x128x4096 .f32) : k0_pay5 k = foldAll 4096 (mulf (k0_pay3 k) (k0_pay3 k)) := rfl

/-- The queries' norms. -/
theorem pay4_apply (q : Vec Ideal S1x128x2048 .f32) (r : Fin 2048) : k0_pay4 q (ix2 0 r) = nrm (qCol q r) := by
  rw [pay4_eq]
  show Ideal.sqrt (foldAll 2048 (mulf (k0_pay2 q) (k0_pay2 q)) (ix2 0 r)) + eps = _
  rw [foldAll_apply]
  refine congrArg (fun x => Ideal.sqrt x + eps) (Finset.sum_congr rfl fun c _ => ?_)
  show k0_pay2 q (ix2 c r) * k0_pay2 q (ix2 c r) = _
  rw [pay2_apply]
/-- The keys' norms. -/
theorem norms_apply (k : Vec Ideal S1x128x4096 .f32) (n : Fin 4096) : norms k (ix2 0 n) = nrm (kCol k n) := by
  show Ideal.sqrt (k0_pay5 k (ix2 0 n)) + eps = _
  rw [pay5_eq, foldAll_apply]
  refine congrArg (fun x => Ideal.sqrt x + eps) (Finset.sum_congr rfl fun c _ => ?_)
  show k0_pay3 k (ix2 c n) * k0_pay3 k (ix2 c n) = _
  rw [pay3_apply]

/-- `[K,M]ᵀ × [K,N]` read at (r, n). -/
theorem scoresDot_apply (lhs : FVec Ideal S128x2048 .bf16) (rhs : FVec Ideal S128x4096 .bf16) (acc : FVec Ideal S2048x4096 .f32) (r : Fin 2048) (n : Fin 4096) :
    matmul dot_S128x2048_S128x4096_S2048x4096_0_0_1_1_n_n none lhs rhs acc (ix2 r n)
      = acc (ix2 r n) + (∑ c : Fin 128, lhs (ix2 c r) * rhs (ix2 c n) : EReal) := by
  refine (Ideal.matmul_apply _ _ _ _ _ _).trans ?_
  rw [← Equiv.sum_comp (contrEquiv1 dot_S128x2048_S128x4096_S2048x4096_0_0_1_1_n_n 128 rfl rfl).symm]
  refine congrArg (acc (ix2 r n) + ·) (Finset.sum_congr rfl fun c _ => ?_)
  have hk := contrEquiv1_symm_val dot_S128x2048_S128x4096_S2048x4096_0_0_1_1_n_n 128 rfl rfl c
  have el : dot_S128x2048_S128x4096_S2048x4096_0_0_1_1_n_n.lhsIdx (ix2 r n)
      ((contrEquiv1 dot_S128x2048_S128x4096_S2048x4096_0_0_1_1_n_n 128 rfl rfl).symm c) = ix2 c r := by
    funext a; apply Fin.ext
    match a with
    | ⟨0, _⟩ => exact hk
    | ⟨1, _⟩ => rfl
  have er : dot_S128x2048_S128x4096_S2048x4096_0_0_1_1_n_n.rhsIdx (ix2 r n)
      ((contrEquiv1 dot_S128x2048_S128x4096_S2048x4096_0_0_1_1_n_n 128 rfl rfl).symm c) = ix2 c n := by
    funext a; apply Fin.ext
    match a with
    | ⟨0, _⟩ => exact hk
    | ⟨1, _⟩ => rfl
  rw [el, er]

/-- A score is the cosine similarity of the query and the key. -/
theorem scores_apply (q : Vec Ideal S1x128x2048 .f32) (k : Vec Ideal S1x128x4096 .f32) (r : Fin 2048) (n : Fin 4096) :
    scores q k (ix2 r n) = cosine (qCol q r) (kCol k n) := by
  refine (scoresDot_apply _ _ _ r n).trans ?_
  have hz : constant (F := Ideal) S2048x4096 .f32 0x00000000#32 (ix2 r n) = (0 : EReal) := Ideal.ofBits_zero_f32
  rw [hz, zero_add]
  refine Finset.sum_congr rfl fun c _ => ?_
  refine congrArg₂ (· * ·) (congrArg₂ Ideal.div (pay2_apply q c r) ?_) (congrArg₂ Ideal.div (pay3_apply k c n) ?_)
  · refine (broadcastTo_apply _ _ _ (ix2 0 r) fun a => ?_).trans (pay4_apply q r)
    match a with
    | ⟨0, _⟩ => rfl
    | ⟨1, _⟩ => rfl
  · refine (broadcastTo_apply _ _ _ (ix2 0 n) fun a => ?_).trans (norms_apply k n)
    match a with
    | ⟨0, _⟩ => rfl
    | ⟨1, _⟩ => rfl

/-! ## The stored block -/

/-- The score where it is at least the threshold, else zero. -/
def kept (m s : EReal) : EReal := if m ≤ s then s else 0
/-- A key's coordinate along axis `d`: its row or its column in the 64 by 64 grid. -/
def coord (d : Fin 2) (n : Fin 4096) : ℕ := if d = 0 then n.val / 64 else n.val % 64
/-- A natural number as an extended real. -/
def ofNat (n : ℕ) : EReal := ((n : ℝ) : EReal)

theorem iota_shift (n : Fin 4096) : (IntOp.shrsi .vector (BitVec.ofNat 32 n.val) 6#32).toInt = (n.val / 64 : ℕ) := by
  revert n; decide +kernel
theorem iota_mask (n : Fin 4096) : (IntOp.andi (BitVec.ofNat 32 n.val) 63#32).toInt = (n.val % 64 : ℕ) := by
  revert n; decide +kernel

/-- Three rows stacked, read at row `e`. -/
theorem rows3_apply {α : Type} (x : Fin 3 → S1x4096.Idx → α) (e : Fin 3) (n : Fin 4096) :
    concatenate S3x4096 0 [⟨S1x4096, x 0⟩, ⟨S1x4096, x 1⟩, ⟨S1x4096, x 2⟩] concatenates_S1x4096_S1x4096_S1x4096_S3x4096_d0 (ix2 e n) = x e (ix2 0 n) :=
  concatenate_ofFn_unit_apply (s₁ := S1x4096) 0 x concatenates_S1x4096_S1x4096_S1x4096_S3x4096_d0 rfl rfl (ix2 e n) e rfl (ix2 0 n) fun b hb => by
    match b with
    | ⟨0, _⟩ => exact absurd rfl hb
    | ⟨1, _⟩ => rfl

/-- The keys' rows of the second product: the norms times the coordinates, and the norms. -/
def weight (nk : FVec Ideal S1x4096 .f32) (d : Fin 3) (n : Fin 4096) : EReal :=
  match d with
  | 0 => nk (ix2 0 n) * ofNat (n.val / 64)
  | 1 => nk (ix2 0 n) * ofNat (n.val % 64)
  | 2 => nk (ix2 0 n)

/-- The second product at row `r`. -/
def total (nk : FVec Ideal S1x4096 .f32) (s : FVec Ideal S2048x4096 .f32) (m : FVec Ideal S2048x1 .f32) (r : Fin 2048) (d : Fin 3) : EReal :=
  ∑ n : Fin 4096, kept (m (ix2 r 0)) (s (ix2 r n)) * weight nk d n

theorem ci_apply (n : Fin 4096) : iota .tc S1x4096 32 [1] iota_S1x4096_d1_w32 (ix2 0 n) = BitVec.ofNat 32 n.val :=
  iota_single_apply .tc S1x4096 32 1 _ _

/-- The three rows the body stacks, as it spells them. -/
def stacked (nk : FVec Ideal S1x4096 .f32) (e : Fin 3) : FVec Ideal S1x4096 .f32 :=
  match e with
  | 0 => mulf nk (sitofp .f32 (shrsi (iota .tc S1x4096 32 [1] iota_S1x4096_d1_w32) (broadcast S1x4096 6#32)))
  | 1 => mulf nk (sitofp .f32 (andi (iota .tc S1x4096 32 [1] iota_S1x4096_d1_w32) (broadcast S1x4096 63#32)))
  | 2 => nk

theorem stacked_apply (nk : FVec Ideal S1x4096 .f32) (e : Fin 3) (n : Fin 4096) : stacked nk e (ix2 0 n) = weight nk e n := by
  match e with
  | 0 =>
    refine congrArg (nk (ix2 0 n) * ·) ?_
    show (((IntOp.shrsi .vector (iota .tc S1x4096 32 [1] iota_S1x4096_d1_w32 (ix2 0 n)) 6#32).toInt : ℝ) : EReal) = ((n.val / 64 : ℕ) : ℝ)
    rw [ci_apply, iota_shift, Int.cast_natCast]
  | 1 =>
    refine congrArg (nk (ix2 0 n) * ·) ?_
    show (((IntOp.andi (iota .tc S1x4096 32 [1] iota_S1x4096_d1_w32 (ix2 0 n)) 63#32).toInt : ℝ) : EReal) = ((n.val % 64 : ℕ) : ℝ)
    rw [ci_apply, iota_mask, Int.cast_natCast]
  | 2 => rfl

theorem kept_apply (s : FVec Ideal S2048x4096 .f32) (m : FVec Ideal S2048x1 .f32) (r : Fin 2048) (n : Fin 4096) :
    select (cmpf .oge s (broadcastTo S2048x4096 m broadcasts_S2048x1_S2048x4096)) s (broadcast S2048x4096 (Scalar.ofBits (F := Ideal) .f32 0x00000000#32)) (ix2 r n)
      = kept (m (ix2 r 0)) (s (ix2 r n)) := by
  have hb : broadcastTo S2048x4096 m broadcasts_S2048x1_S2048x4096 (ix2 r n) = m (ix2 r 0) :=
    broadcastTo_apply _ _ _ (ix2 r 0) fun a => by
      match a with
      | ⟨0, _⟩ => rfl
      | ⟨1, _⟩ => rfl
  have hz : (Scalar.ofBits (F := Ideal) .f32 0x00000000#32 : EReal) = 0 := Ideal.ofBits_zero_f32
  show (if FloatOps.cmpf .oge (s (ix2 r n)) (broadcastTo S2048x4096 m broadcasts_S2048x1_S2048x4096 (ix2 r n)) = 1#1 then s (ix2 r n) else
    (Scalar.ofBits (F := Ideal) .f32 0x00000000#32 : EReal)) = _
  rw [hb, hz]
  unfold kept
  by_cases h : m (ix2 r 0) ≤ s (ix2 r n)
  · rw [if_pos h, if_pos]
    show BitVec.ofBool (decide (m (ix2 r 0) ≤ s (ix2 r n))) = 1#1
    rw [decide_eq_true h]; rfl
  · rw [if_neg h, if_neg]
    show BitVec.ofBool (decide (m (ix2 r 0) ≤ s (ix2 r n))) ≠ 1#1
    rw [decide_eq_false h]; decide

/-- The stored block at query `r`: each coordinate's weighted sum over the sum of the weights. -/
theorem finish_apply (nk : FVec Ideal S1x4096 .f32) (s : FVec Ideal S2048x4096 .f32) (m : FVec Ideal S2048x1 .f32) (r : Fin 2048) (d : Fin 2) :
    finish nk s m (ix3 0 r d) = Ideal.div (total nk s m r d.castSucc) (total nk s m r 2) := by
  unfold finish
  generalize hn : matmul (F := Ideal) dot_S2048x4096_S3x4096_S2048x3_1_1_0_0_n_n none _ _ _ = nums
  have hnums : ∀ e : Fin 3, nums (ix2 r e) = total nk s m r e := fun e => by
    rw [← hn]
    refine (Ideal.matmul_transposedRhs_apply none _ _ _ r e).trans ?_
    have hz : constant (F := Ideal) S2048x3 .f32 0x00000000#32 (ix2 r e) = (0 : EReal) := Ideal.ofBits_zero_f32
    rw [hz, zero_add]
    refine Finset.sum_congr rfl fun n _ => congrArg₂ (· * ·) (kept_apply s m r n) ?_
    exact (rows3_apply (stacked nk) e n).trans (stacked_apply nk e n)
  refine (shapeCast_apply _ _ _ (ix2 r d) ?_).trans ?_
  · rw [Shape.rowMajor_val_two, Shape.rowMajor_val_three]
    show r.val * 2 + d.val = (0 * 2048 + r.val) * 2 + d.val
    omega
  have hs : ∀ (e : Fin 3) (h : S2048x3.Slices ![0, e.val] S2048x1), extractStridedSlice S2048x1 ![0, e.val] nums h (ix2 r 0) = total nk s m r e := fun e h => by
    refine (extractStridedSlice_apply _ _ _ _ (ix2 r e) fun a => ?_).trans (hnums e)
    match a with
    | ⟨0, _⟩ => show r.val = 0 + r.val; omega
    | ⟨1, _⟩ => rfl
  match d with
  | 0 =>
    refine (concatenate_pair_apply_left (t := S2048x2) (s₁ := S2048x1) (s₂ := S2048x1) 1 _ _ _ (ix2 r 0) rfl (ix2 r 0) fun b => ?_).trans ?_
    · match b with
      | ⟨0, _⟩ => rfl
      | ⟨1, _⟩ => rfl
    · exact congrArg₂ Ideal.div (hs 0 _) (hs 2 _)
  | 1 =>
    refine (concatenate_pair_apply_right (t := S2048x2) (s₁ := S2048x1) (s₂ := S2048x1) 1 _ _ _ (ix2 r 1) rfl rfl (ix2 r 0) (fun b hb => ?_) rfl).trans ?_
    · match b with
      | ⟨0, _⟩ => rfl
      | ⟨1, _⟩ => exact absurd rfl hb
    · exact congrArg₂ Ideal.div (hs 1 _) (hs 2 _)

/-- The body's stored block at query `r`. -/
theorem corr_apply (q : Vec Ideal S1x128x2048 .f32) (k : Vec Ideal S1x128x4096 .f32) (r : Fin 2048) (d : Fin 2) :
    corr q k (ix3 0 r d) = Ideal.div (total (norms k) (scores q k) (third (scores q k)) r d.castSucc) (total (norms k) (scores q k) (third (scores q k)) r 2) := by
  rw [corr_eq, finish_apply]

end Cert.Proof

end
-- ==== Proof.RefCos.lean ====
/-
  The reference's cosine matrix read at an index: the same sum over the channels of quotients as the kernel's scores.
-/
module

public import proofs.«01_k».proof.Proof.KernelValue
public import proofs.«01_k».proof.Proof.Gen.ReferenceIdeal.Read

@[expose] public section

noncomputable section

namespace Cert.Proof

open Cert.ReferenceIdeal Cert.ReferenceIdeal.Read
open Idealize.ShloMosaic Idealize.ShloMosaic.TcCoe Idealize.ShloMosaic.ValueIdx

/-- The channels of one pixel of an image batch, pixels numbered row by row. -/
def col (x : S2x128x64x64.Idx → EReal) (b : Fin 2) (n : Fin 4096) (c : Fin 128) : EReal :=
  x (ix4 b c ⟨n.val / 64, by omega⟩ ⟨n.val % 64, by omega⟩)

variable (x0 x1 : S2x128x64x64.Idx → EReal)

theorem idx1_at (b : Fin 2) (n : Fin 4096) (c : Fin 128) :
    idx_main_v0 (idx_main_v1 (ix3 b n c)) = ix4 b c ⟨n.val / 64, by omega⟩ ⟨n.val % 64, by omega⟩ := by
  have hb := b.isLt
  have hn := n.isLt
  have hc := c.isLt
  funext a
  apply Fin.ext
  match a with
  | ⟨0, _⟩ => show ((b.val * 4096 + n.val) * 128 + c.val) / 524288 = b.val; omega
  | ⟨1, _⟩ => show ((b.val * 4096 + n.val) * 128 + c.val) % 128 = c.val; omega
  | ⟨2, _⟩ => show ((b.val * 4096 + n.val) * 128 + c.val) / 8192 % 64 = n.val / 64; omega
  | ⟨3, _⟩ => show ((b.val * 4096 + n.val) * 128 + c.val) / 128 % 64 = n.val % 64; omega

/-- The reference's queries at (batch, pixel, channel). -/
theorem queries_at (b : Fin 2) (n : Fin 4096) (c : Fin 128) : val_main_v1 (F := Ideal) x0 (ix3 b n c) = col x0 b n c := by
  rw [val_main_v1_apply, val_main_v0_apply, idx1_at]
  rfl

/-- The reference's keys at (batch, pixel, channel). -/
theorem keys_at (b : Fin 2) (n : Fin 4096) (c : Fin 128) : val_main_v3 (F := Ideal) x1 (ix3 b n c) = col x1 b n c :=
  queries_at x1 b n c

/-- A query's norm with the stabilising constant. -/
theorem queryNorm_at (b : Fin 2) (n : Fin 4096) : (val_main_v6 (F := Ideal) x0 (ix3 b n 0) : EReal) = nrm (col x0 b n) := by
  rw [val_main_v6_apply, val_main_v4_apply, val_main_call0_v2_apply, val_main_call0_v1_apply, val_main_v5_apply]
  show (Ideal.sqrt (Ideal.ofBits .f32 0x00000000#32 + ∑ k : Fin 128, (_ : EReal)) : EReal) + _ = _
  rw [Ideal.ofBits_zero_f32, zero_add]
  refine congrArg (fun s : EReal => Ideal.sqrt s + eps) (Finset.sum_congr rfl fun k _ => ?_)
  rw [val_main_call0_v0_apply]
  exact congrArg (fun v : EReal => v * v) (queries_at x0 b n k)

/-- A key's norm with the stabilising constant. -/
theorem keyNorm_at (b : Fin 2) (n : Fin 4096) : (val_main_v11 (F := Ideal) x1 (ix3 b n 0) : EReal) = nrm (col x1 b n) :=
  queryNorm_at x1 b n

theorem idx7_at (b : Fin 2) (n : Fin 4096) (c : Fin 128) : idx_main_v7 (ix3 b n c) = ix3 b n 0 := by
  funext a
  match a with
  | ⟨0, _⟩ => rfl
  | ⟨1, _⟩ => rfl
  | ⟨2, _⟩ => rfl

/-- A normalised query. -/
theorem unitQuery_at (b : Fin 2) (n : Fin 4096) (c : Fin 128) :
    (val_main_v8 (F := Ideal) x0 (ix3 b n c) : EReal) = Ideal.div (col x0 b n c) (nrm (col x0 b n)) := by
  rw [val_main_v8_apply, val_main_v7_apply, idx7_at]
  exact congrArg₂ Ideal.div (queries_at x0 b n c) (queryNorm_at x0 b n)

/-- A normalised key. -/
theorem unitKey_at (b : Fin 2) (n : Fin 4096) (c : Fin 128) :
    (val_main_v13 (F := Ideal) x1 (ix3 b n c) : EReal) = Ideal.div (col x1 b n c) (nrm (col x1 b n)) := by
  rw [val_main_v13_apply, val_main_v12_apply, show idx_main_v12 (ix3 b n c) = ix3 b n 0 from idx7_at b n c]
  exact congrArg₂ Ideal.div (keys_at x1 b n c) (keyNorm_at x1 b n)

/-- The reference's cosine of query `n` and key `m`. -/
theorem cos_at (b : Fin 2) (n m : Fin 4096) :
    (val_main_v24 (F := Ideal) x0 x1 (ix3 b n m) : EReal) = cosine (col x0 b n) (col x1 b m) := by
  rw [val_main_v24_apply]
  refine Finset.sum_congr rfl fun c _ => ?_
  rw [val_main_v23_apply]
  rw [show lidx_main_v24 (ix3 b n m) c = ix3 b n c by
      funext a
      match a with
      | ⟨0, _⟩ => rfl
      | ⟨1, _⟩ => rfl
      | ⟨2, _⟩ => rfl,
    show idx_main_v23 (ridx_main_v24 (ix3 b n m) c) = ix3 b m c by
      funext a
      match a with
      | ⟨0, _⟩ => rfl
      | ⟨1, _⟩ => rfl
      | ⟨2, _⟩ => rfl]
  exact congrArg₂ (fun u v : EReal => u * v) (unitQuery_at x0 b n c) (unitKey_at x1 b m c)

end Cert.Proof

end
-- ==== Proof.Takes.lean ====
/-
  The reference's three gathers read at an index.
-/
module

public import Idealize.ShloMosaic.Lib.ValueIdx
public import proofs.«01_k».proof.Proof.Gen.ReferenceIdeal.Read

@[expose] public section

noncomputable section

namespace Cert.Proof

open Cert.ReferenceIdeal
open Idealize.ShloMosaic Idealize.ShloMosaic.TcCoe Idealize.ShloMosaic.ValueIdx

variable {α : Type}

/-- A take of key rows: batch by batch, the row the index word names, clamped into the batch. -/
theorem takeKeys_at (x : S2x4096x128.Idx → α) (idx : IVec S2x4096x3x1 32) (b : Fin 2) (n : Fin 4096) (i : Fin 3) (c : Fin 128) :
    Host.gather gather_S2x4096x128_S2x4096x3x1_S2x4096x3x128_3_1_0_0_1_3_11128 x idx (ix4 b n i c)
      = x (ix3 b ⟨min (idx (ix4 b n i 0)).toInt.toNat 4095, by omega⟩ c) := by
  have hsi : ∀ k, gather_S2x4096x128_S2x4096x3x1_S2x4096x3x128_3_1_0_0_1_3_11128.siIdx (ix4 b n i c) k = ix4 b n i 0 := by
    intro k
    funext a
    apply Fin.ext
    match a with
    | ⟨0, _⟩ => rfl
    | ⟨1, _⟩ => rfl
    | ⟨2, _⟩ => rfl
    | ⟨3, _⟩ => show k.val = 0; exact Nat.lt_one_iff.mp k.isLt
  unfold Host.gather
  congr 1
  funext a
  apply Fin.ext
  match a with
  | ⟨0, _⟩ => show 0 + b.val + 0 = b.val; omega
  | ⟨1, _⟩ =>
    show min (idx (gather_S2x4096x128_S2x4096x3x1_S2x4096x3x128_3_1_0_0_1_3_11128.siIdx (ix4 b n i c) ⟨0, by decide⟩)).toInt.toNat 4095 + 0 + 0 = _
    rw [hsi]
    rfl
  | ⟨2, _⟩ => show 0 + 0 + c.val = c.val; omega

/-- A take of table rows: the row the index word names, clamped into the table. -/
theorem takeRows_at (x : S4096x2.Idx → α) (idx : IVec S2x4096x3x1 32) (b : Fin 2) (n : Fin 4096) (i : Fin 3) (d : Fin 2) :
    Host.gather gather_S4096x2_S2x4096x3x1_S2x4096x3x2_3_0_n_n_0_3_12 x idx (ix4 b n i d)
      = x (ix2 ⟨min (idx (ix4 b n i 0)).toInt.toNat 4095, by omega⟩ d) := by
  have hsi : ∀ k, gather_S4096x2_S2x4096x3x1_S2x4096x3x2_3_0_n_n_0_3_12.siIdx (ix4 b n i d) k = ix4 b n i 0 := by
    intro k
    funext a
    apply Fin.ext
    match a with
    | ⟨0, _⟩ => rfl
    | ⟨1, _⟩ => rfl
    | ⟨2, _⟩ => rfl
    | ⟨3, _⟩ => show k.val = 0; exact Nat.lt_one_iff.mp k.isLt
  unfold Host.gather
  congr 1
  funext a
  apply Fin.ext
  match a with
  | ⟨0, _⟩ =>
    show min (idx (gather_S4096x2_S2x4096x3x1_S2x4096x3x2_3_0_n_n_0_3_12.siIdx (ix4 b n i d) ⟨0, by decide⟩)).toInt.toNat 4095 + 0 + 0 = _
    rw [hsi]
    rfl
  | ⟨1, _⟩ => show 0 + 0 + d.val = d.val; omega

/-- The read of the prediction at (batch, row, column): the three words of the index vector, each clamped. -/
theorem takePixel_at (x : S2x64x64x2.Idx → α) (idx : IVec S2x50x120x3 32) (b : Fin 2) (n : Fin 50) (k : Fin 120) (d : Fin 2) :
    Host.gather gather_S2x64x64x2_S2x50x120x3_S2x50x120x2_3_012_n_n_012_3_1112 x idx (ix4 b n k d)
      = x (ix4 ⟨min (idx (ix4 b n k 0)).toInt.toNat 1, by omega⟩ ⟨min (idx (ix4 b n k 1)).toInt.toNat 63, by omega⟩
          ⟨min (idx (ix4 b n k 2)).toInt.toNat 63, by omega⟩ d) := by
  have hsi : ∀ j (h : j < 3), gather_S2x64x64x2_S2x50x120x3_S2x50x120x2_3_012_n_n_012_3_1112.siIdx (ix4 b n k d) ⟨j, h⟩ = ix4 b n k ⟨j, h⟩ := by
    intro j h
    funext a
    apply Fin.ext
    match a with
    | ⟨0, _⟩ => rfl
    | ⟨1, _⟩ => rfl
    | ⟨2, _⟩ => rfl
    | ⟨3, _⟩ => rfl
  unfold Host.gather
  congr 1
  funext a
  apply Fin.ext
  match a with
  | ⟨0, _⟩ => exact congrArg (fun j => min (idx j).toInt.toNat 1) (hsi 0 (by decide))
  | ⟨1, _⟩ => exact congrArg (fun j => min (idx j).toInt.toNat 63) (hsi 1 (by decide))
  | ⟨2, _⟩ => exact congrArg (fun j => min (idx j).toInt.toNat 63) (hsi 2 (by decide))
  | ⟨3, _⟩ => show 0 + 0 + d.val = d.val; omega

end Cert.Proof

end
-- ==== Proof.RefTake.lean ====
/-
  The reference's three nearest keys of a query: their positions, their channels and their pixel coordinates.
-/
module

public import proofs.«01_k».proof.Proof.Rank
public import proofs.«01_k».proof.Proof.RefCos
public import proofs.«01_k».proof.Proof.Takes
public import Idealize.ShloMosaic.Lib.ReduceAll

@[expose] public section

noncomputable section

namespace Cert.Proof

open Cert.ReferenceIdeal Cert.ReferenceIdeal.Read
open Idealize.ShloMosaic Idealize.ShloMosaic.TcCoe Idealize.ShloMosaic.ValueIdx

/-! ## Index words -/

theorem toInt_word (k : ℕ) (h : k < 2 ^ 31) : (BitVec.ofNat 32 k).toInt = k := by
  rw [BitVec.toInt_eq_toNat_of_lt] <;> rw [BitVec.toNat_ofNat] <;> omega

theorem slt_zero_word (k : ℕ) (h : k < 2 ^ 31) : IntOp.cmpi .slt (BitVec.ofNat 32 k) 0#32 = 0#1 := by
  show BitVec.ofBool ((BitVec.ofNat 32 k).slt 0#32) = 0#1
  rw [BitVec.slt_eq_decide, toInt_word k h, decide_eq_false (by rw [BitVec.toInt_zero]; omega)]
  rfl

/-- A natural number's word is left alone by the wrap of negative indices. -/
theorem wrap_word (k : ℕ) (h : k < 2 ^ 31) (v : BitVec 32) :
    Scalar.select (IntOp.cmpi .slt (BitVec.ofNat 32 k) 0#32) v (BitVec.ofNat 32 k) = BitVec.ofNat 32 k := by
  rw [slt_zero_word k h]
  rfl

/-- A natural number's word passes the range check of a take. -/
theorem range_word (k : ℕ) (h : k < 4096) :
    IntOp.andi (IntOp.cmpi .sge (BitVec.ofNat 32 k) 0#32) (IntOp.cmpi .sle (BitVec.ofNat 32 k) 4095#32) = 1#1 := by
  have h0 : IntOp.cmpi .sge (BitVec.ofNat 32 k) 0#32 = 1#1 := by
    show BitVec.ofBool ((0#32).sle (BitVec.ofNat 32 k)) = 1#1
    rw [BitVec.sle_eq_decide, toInt_word k (by omega), decide_eq_true (by rw [BitVec.toInt_zero]; omega)]
    rfl
  have h1 : IntOp.cmpi .sle (BitVec.ofNat 32 k) 4095#32 = 1#1 := by
    show BitVec.ofBool ((BitVec.ofNat 32 k).sle (BitVec.ofNat 32 4095)) = 1#1
    rw [BitVec.sle_eq_decide, toInt_word k (by omega), toInt_word 4095 (by omega), decide_eq_true (by omega)]
    rfl
  rw [h0, h1]
  rfl

/-! ## The three nearest keys -/

variable (x0 x1 : S2x128x64x64.Idx → EReal)

/-- A batch's keys in the order of their cosine with a query. -/
def ranked (b : Fin 2) (n : Fin 4096) : Fin 4096 → Fin 4096 := order fun m => cosine (col x0 b n) (col x1 b m)

/-- A query's three nearest keys. -/
def pick (b : Fin 2) (n : Fin 4096) (i : Fin 3) : Fin 4096 := ranked x0 x1 b n ⟨i.val, by omega⟩

theorem cos_row (b : Fin 2) (n : Fin 4096) :
    (fun m => val_main_v24 (F := Ideal) x0 x1 (ix3 b n m)) = fun m => (cosine (col x0 b n) (col x1 b m) : Ideal .f32) :=
  funext fun m => cos_at x0 x1 b n m

/-- The reference's index words are those positions. -/
theorem index_at (b : Fin 2) (n : Fin 4096) (i : Fin 3) :
    val_main_indices (F := Ideal) x0 x1 (ix3 b n i) = BitVec.ofNat 32 (pick x0 x1 b n i).val := by
  unfold val_main_indices
  refine (topK_index (val_main_v24 (F := Ideal) x0 x1) _ b n i ⟨i.val, by omega⟩ rfl).trans ?_
  rw [cos_row]
  rfl

/-- The index words after the wrap of negative ones. -/
theorem wrapped_at (b : Fin 2) (n : Fin 4096) (i : Fin 3) :
    val_main_call2_v5 (F := Ideal) x0 x1 (ix4 b n i 0) = BitVec.ofNat 32 (pick x0 x1 b n i).val := by
  rw [val_main_call2_v5_apply, show idx_main_call2_v5 (ix4 b n i 0) = ix3 b n i by
      funext a
      match a with
      | ⟨0, _⟩ => rfl
      | ⟨1, _⟩ => rfl
      | ⟨2, _⟩ => rfl, val_main_call2_v4_apply, val_main_call2_v1_apply, index_at]
  exact wrap_word _ (by omega) _

/-- The take's range check passes everywhere. -/
theorem mask_at (b : Fin 2) (n : Fin 4096) (i : Fin 3) : val_main_call2_v12 (F := Ideal) x0 x1 (ix3 b n i) = 1#1 := by
  refine Host.reduce_andi_one _ _ _ _ _ rfl fun j => ?_
  obtain ⟨b', n', i', u, rfl⟩ : ∃ b' n' i' u, j = ix4 b' n' i' u := ⟨_, _, _, _, eq_ix4 j⟩
  obtain rfl : u = 0 := Subsingleton.elim (α := Fin 1) _ _
  rw [val_main_call2_v11_apply, val_main_call2_v7_apply, val_main_call2_v10_apply, wrapped_at]
  exact range_word _ (pick x0 x1 b' n' i').isLt

/-- The word of a position, clamped into the table, is the position. -/
theorem clamp_word {w : BitVec 32} (k : Fin 4096) (e : w = BitVec.ofNat 32 k.val) (h : min w.toInt.toNat 4095 < 4096) :
    (⟨min w.toInt.toNat 4095, h⟩ : Fin 4096) = k := by
  subst e
  apply Fin.ext
  show min (BitVec.ofNat 32 k.val).toInt.toNat 4095 = k.val
  rw [toInt_word _ (by omega), Int.toNat_natCast]
  omega

/-- The channels of the nearest keys. -/
theorem neighbour_at (b : Fin 2) (n : Fin 4096) (i : Fin 3) (c : Fin 128) :
    val_main_v25 (F := Ideal) x0 x1 (ix4 b n i c) = col x1 b (pick x0 x1 b n i) c := by
  rw [val_main_v25_apply, val_main_call2_v14_apply, show idx_main_call2_v14 (ix4 b n i c) = ix3 b n i by
      funext a
      match a with
      | ⟨0, _⟩ => rfl
      | ⟨1, _⟩ => rfl
      | ⟨2, _⟩ => rfl, mask_at]
  refine (?_ : val_main_call2_v13 (F := Ideal) x0 x1 (ix4 b n i c) = _)
  unfold val_main_call2_v13
  refine (takeKeys_at _ _ b n i c).trans ?_
  exact (congrArg (fun m => val_main_v3 (F := Ideal) x1 (ix3 b m c)) (clamp_word _ (wrapped_at x0 x1 b n i) _)).trans (keys_at x1 b _ c)

/-- The coordinates' take reads the same index words, -/
theorem wrapped_coords : val_main_call3_v5 (F := Ideal) x0 x1 = val_main_call2_v5 x0 x1 := rfl

/-- and passes the same range check. -/
theorem mask_coords : val_main_call3_v12 (F := Ideal) x0 x1 = val_main_call2_v12 x0 x1 := rfl

/-- The coordinates of a pixel. -/
theorem coords_at (m : Fin 4096) (d : Fin 2) : (val_main_v22 (F := Ideal) (ix2 m d) : EReal) = ofNat (coord d m) := by
  have key : val_main_v21 (F := Ideal) (ix2 m d) = BitVec.ofNat 32 (coord d m) := by
    have e : idx_main_v21 (ix2 m d) = ix3 ⟨m.val / 64, by omega⟩ ⟨m.val % 64, by omega⟩ d := by
      have hd := d.isLt
      have hm := m.isLt
      funext a
      apply Fin.ext
      match a with
      | ⟨0, _⟩ => show (m.val * 2 + d.val) / 128 = m.val / 64; omega
      | ⟨1, _⟩ => show (m.val * 2 + d.val) / 2 % 64 = m.val % 64; omega
      | ⟨2, _⟩ => show (m.val * 2 + d.val) % 2 = d.val; omega
    rw [val_main_v21_apply, e]
    unfold val_main_v20
    match d with
    | 0 =>
      refine (concatenate_pair_apply_left (t := S64x64x2) (s₁ := S64x64x1) (s₂ := S64x64x1) 2 _ _ _
        (ix3 ⟨m.val / 64, by omega⟩ ⟨m.val % 64, by omega⟩ 0) rfl (ix3 ⟨m.val / 64, by omega⟩ ⟨m.val % 64, by omega⟩ 0) fun b => ?_).trans ?_
      · match b with
        | ⟨0, _⟩ => rfl
        | ⟨1, _⟩ => rfl
        | ⟨2, _⟩ => rfl
      · rw [val_main_v18_apply, val_main_v16_apply]
        rfl
    | 1 =>
      refine (concatenate_pair_apply_right (t := S64x64x2) (s₁ := S64x64x1) (s₂ := S64x64x1) 2 _ _ _
        (ix3 ⟨m.val / 64, by omega⟩ ⟨m.val % 64, by omega⟩ 1) rfl rfl (ix3 ⟨m.val / 64, by omega⟩ ⟨m.val % 64, by omega⟩ 0)
        (fun b hb => ?_) rfl).trans ?_
      · match b with
        | ⟨0, _⟩ => rfl
        | ⟨1, _⟩ => rfl
        | ⟨2, _⟩ => exact absurd rfl hb
      · rw [val_main_v19_apply, val_main_v17_apply]
        rfl
  have hc : coord d m < 2 ^ 31 := by
    have hm := m.isLt
    match d with
    | 0 => show m.val / 64 < 2 ^ 31; omega
    | 1 => show m.val % 64 < 2 ^ 31; omega
  rw [val_main_v22_apply, key]
  show (((BitVec.ofNat 32 (coord d m)).toInt : ℝ) : EReal) = ((coord d m : ℝ) : EReal)
  rw [toInt_word _ hc, Int.cast_natCast]

/-- The coordinates of the nearest keys. -/
theorem place_at (b : Fin 2) (n : Fin 4096) (i : Fin 3) (d : Fin 2) :
    (val_main_v30 (F := Ideal) x0 x1 (ix4 b n i d) : EReal) = ofNat (coord d (pick x0 x1 b n i)) := by
  rw [val_main_v30_apply, val_main_call3_v14_apply, mask_coords, show idx_main_call3_v14 (ix4 b n i d) = ix3 b n i by
      funext a
      match a with
      | ⟨0, _⟩ => rfl
      | ⟨1, _⟩ => rfl
      | ⟨2, _⟩ => rfl, mask_at]
  refine (?_ : (val_main_call3_v13 (F := Ideal) x0 x1 (ix4 b n i d) : EReal) = _)
  unfold val_main_call3_v13
  refine (takeRows_at _ _ b n i d).trans ?_
  exact (congrArg (fun m => val_main_v22 (F := Ideal) (ix2 m d)) (clamp_word _ (wrapped_at x0 x1 b n i) _)).trans (coords_at _ d)

end Cert.Proof

end
-- ==== Proof.PreFacts.lean ====
/-
  What the precondition says: the keys are finite, and of every query's cosines the third greatest exceeds the fourth.
-/
module

public import proofs.«01_k».proof.Pre_separated
public import proofs.«01_k».proof.Proof.RefTake

@[expose] public section

noncomputable section

namespace Cert.Proof

open Cert.Pre_separated
open Idealize.ShloMosaic Idealize.ShloMosaic.TcCoe Idealize.ShloMosaic.ValueIdx

/-- The shape facts the precondition's operations ask for. -/
instance sepFacts : Cert.Pre_separated.Facts := by
  constructor <;> decide +kernel

variable (x0 x1 : S2x128x64x64.Idx → EReal) (x2 x3 : FVec Ideal S2x64x64 .f32) (x4 : IVec S2x64x64 32) (x5 : FVec Ideal S2x50x120x2 .f32)

/-- The precondition's cosine matrix is the reference's; its four greatest per query. -/
def top4 : FVec Ideal S2x4096x4 .f32 :=
  (Host.topK S2x4096x4 2 (FloatOps.cmpfTotal .gt) (Cert.ReferenceIdeal.Read.val_main_v24 (F := Ideal) x0 x1) Facts.sliceFits_S2x4096x4096_S2x4096x4).1

theorem top4_at (b : Fin 2) (n : Fin 4096) (i : Fin 4) (i' : Fin 4096) (e : i'.val = i.val) :
    (top4 x0 x1 (ix3 b n i) : EReal) = cosine (col x0 b n) (col x1 b (ranked x0 x1 b n i')) := by
  unfold top4
  refine (topK_value (Cert.ReferenceIdeal.Read.val_main_v24 (F := Ideal) x0 x1) _ b n i i' e).trans ?_
  rw [cos_row]
  exact cos_at x0 x1 b n _

/-- The precondition as a conjunction of its two halves. -/
theorem fn_eq : Cert.Pre_separated.fn (F := Ideal) x0 x1 x2 x3 x4 x5
    = fn_part1 (F := Ideal) (top4 x0 x1) (cmpf .olt (Host.absf (F := Ideal) (s := S2x128x64x64) (φ := .f32) x1)
        (broadcastInDim S2x128x64x64 ![] Facts.bcast_S_S2x128x64x64 (constant S_ .f32 0x7F800000#32))) := rfl

variable {x0 x1 x2 x3 x4 x5}

theorem ofBool_one {p : Prop} [Decidable p] (h : BitVec.ofBool (decide p) = 1#1) : p := by
  by_contra hp
  rw [decide_eq_false hp] at h
  exact absurd h (by decide)

/-- The bound the keys are compared with is the greatest value. -/
theorem inf_val : (Ideal.ofBits .f32 0x7F800000#32 : EReal) = ⊤ := by
  unfold Ideal.ofBits Ideal.ieee
  dsimp only
  rw [if_pos (by decide), if_pos (by decide), if_neg (by decide)]

/-- Under the precondition the keys are finite, -/
theorem finite_keys (h : Cert.Pre_separated.fn (F := Ideal) x0 x1 x2 x3 x4 x5 = fun _ => 1#1) (i : S2x128x64x64.Idx) :
    x1 i ≠ ⊤ ∧ x1 i ≠ ⊥ := by
  rw [fn_eq] at h
  have h0 := (IntOp.andi_eq_one.1 (congrFun h ix0)).1
  have h1 := Host.reduce_andi_all _ _ _ _ _ h0 i
  have h2 : max (x1 i) (-(x1 i)) < (⊤ : EReal) := by
    rw [← inf_val]
    exact ofBool_one h1
  constructor
  · intro e
    rw [e] at h2
    exact absurd h2 (by simp)
  · intro e
    rw [e] at h2
    exact absurd h2 (by simp)

/-- and the third greatest cosine of a query exceeds the fourth. -/
theorem third_gt_fourth (h : Cert.Pre_separated.fn (F := Ideal) x0 x1 x2 x3 x4 x5 = fun _ => 1#1) (b : Fin 2) (n : Fin 4096) :
    cosine (col x0 b n) (col x1 b (ranked x0 x1 b n 3)) < cosine (col x0 b n) (col x1 b (ranked x0 x1 b n 2)) := by
  rw [fn_eq] at h
  have h0 := (IntOp.andi_eq_one.1 (congrFun h ix0)).2
  have h1 := Host.reduce_andi_all _ _ _ _ _ h0 (ix2 b n)
  have h2 : ∀ (i : Fin 4) (hs : S2x4096x4.Slices ![0, 0, i.val] S2x4096x1),
      shapeCast S2x4096 (extractStridedSlice S2x4096x1 ![0, 0, i.val] (top4 x0 x1) hs) Facts.shapeCasts_S2x4096x1_S2x4096 (ix2 b n) = top4 x0 x1 (ix3 b n i) := by
    intro i hs
    rw [shapeCast_apply _ _ (ix2 b n) (ix3 b n 0), extractStridedSlice_apply _ _ hs (ix3 b n 0) (ix3 b n i)]
    · intro a
      match a with
      | ⟨0, _⟩ => simp [ix3]
      | ⟨1, _⟩ => simp [ix3]
      | ⟨2, _⟩ => simp [ix3]
    · rw [Shape.rowMajor_val_three, Shape.rowMajor_val_two]
      simp [ix3, ix2]
  have h3 := ofBool_one (p := top4 x0 x1 (ix3 b n 3) < (top4 x0 x1 (ix3 b n 2) : EReal)) (by
    rw [← h2 3 Facts.slices_S2x4096x4_S2x4096x1_0_0_3, ← h2 2 Facts.slices_S2x4096x4_S2x4096x1_0_0_2]
    exact h1)
  rw [top4_at x0 x1 b n 3 3 rfl, top4_at x0 x1 b n 2 2 rfl] at h3
  exact h3

end Cert.Proof

end
-- ==== Proof.RefPred.lean ====
/-
  The reference's prediction at an index: of a query's three nearest keys, the mean of their coordinates weighted by their products with the query.
-/
module

public import proofs.«01_k».proof.Proof.RefTake

@[expose] public section

noncomputable section

namespace Cert.Proof

open Cert.ReferenceIdeal Cert.ReferenceIdeal.Gen Cert.ReferenceIdeal.Read
open Idealize.ShloMosaic Idealize.ShloMosaic.TcCoe Idealize.ShloMosaic.ValueIdx

variable (x0 x1 : S2x128x64x64.Idx → EReal)

theorem mul_congr {a b c d : EReal} (h : a = c) (h' : b = d) : a * b = c * d := by rw [h, h']
theorem div_congr {a b c d : EReal} (h : a = c) (h' : b = d) : Ideal.div a b = Ideal.div c d := by rw [h, h']

/-- The product of a query with one of its nearest keys. -/
theorem product_at (b : Fin 2) (n : Fin 4096) (i : Fin 3) :
    (val_main_v29 (F := Ideal) x0 x1 (ix3 b n i) : EReal)
      = (∑ c : Fin 128, col x0 b n c * col x1 b (pick x0 x1 b n i) c : EReal) := by
  rw [val_main_v29_apply]
  refine (congrArg (· + _) (Ideal.ofBits_zero_f32 : _ = (0 : EReal))).trans ((zero_add _).trans ?_)
  refine Finset.sum_congr rfl fun c _ => ?_
  rw [show idx_main_v29 (ix3 b n i) c = ix4 b n i c by
      funext a
      match a with
      | ⟨0, _⟩ => rfl
      | ⟨1, _⟩ => rfl
      | ⟨2, _⟩ => rfl
      | ⟨3, _⟩ => rfl, val_main_v28_apply, val_main_v27_apply, val_main_v26_apply]
  refine mul_congr ?_ (neighbour_at x0 x1 b n i c)
  rw [show idx_main_v26 (idx_main_v27 (ix4 b n i c)) = ix3 b n c by
      funext a
      match a with
      | ⟨0, _⟩ => rfl
      | ⟨1, _⟩ => rfl
      | ⟨2, _⟩ => rfl]
  exact queries_at x0 b n c

/-- The reference's prediction. -/
theorem prediction_at (b : Fin 2) (n : Fin 4096) (d : Fin 2) :
    (val_main_v38 (F := Ideal) x0 x1 (ix3 b n d) : EReal)
      = Ideal.div (∑ i : Fin 3, ofNat (coord d (pick x0 x1 b n i)) * ∑ c : Fin 128, col x0 b n c * col x1 b (pick x0 x1 b n i) c : EReal)
          (∑ i : Fin 3, ∑ c : Fin 128, col x0 b n c * col x1 b (pick x0 x1 b n i) c : EReal) := by
  rw [val_main_v38_apply, val_main_v37_apply, val_main_v36_apply, val_main_v34_apply, val_main_v35_apply]
  refine div_congr ?_ ?_
  · refine (congrArg (· + _) (Ideal.ofBits_zero_f32 : _ = (0 : EReal))).trans ((zero_add _).trans ?_)
    refine Finset.sum_congr rfl fun i _ => ?_
    rw [show idx_main_v34 (ix3 b n d) i = ix4 b n i d by
        funext a
        match a with
        | ⟨0, _⟩ => rfl
        | ⟨1, _⟩ => rfl
        | ⟨2, _⟩ => rfl
        | ⟨3, _⟩ => rfl, val_main_v33_apply, val_main_v32_apply, val_main_v31_apply]
    refine mul_congr (place_at x0 x1 b n i d) ?_
    rw [show idx_main_v31 (idx_main_v32 (ix4 b n i d)) = ix3 b n i by
        funext a
        match a with
        | ⟨0, _⟩ => rfl
        | ⟨1, _⟩ => rfl
        | ⟨2, _⟩ => rfl]
    exact product_at x0 x1 b n i
  · refine (congrArg (· + _) (Ideal.ofBits_zero_f32 : _ = (0 : EReal))).trans ((zero_add _).trans ?_)
    refine Finset.sum_congr rfl fun i _ => ?_
    rw [show idx_main_v35 (idx_main_v36 (idx_main_v37 (ix3 b n d))) i = ix3 b n i by
        funext a
        match a with
        | ⟨0, _⟩ => rfl
        | ⟨1, _⟩ => rfl
        | ⟨2, _⟩ => rfl]
    exact product_at x0 x1 b n i

end Cert.Proof

end
-- ==== Proof.PredValue.lean ====
/-
  The pipelined call's result array read at an index: the value of the block body on the query block that holds the row
  and on the whole key block of its batch.
-/
module

public import proofs.«01_k».proof.Proof.Region
public import Idealize.ShloMosaic.Lib.Pipeline.ValueKit.Geometry

@[expose] public section

noncomputable section

namespace Cert.Proof

open Cert.KernelIdeal Cert.KernelIdeal.Gen
open Idealize.ShloMosaic Idealize.ShloMosaic.TcCoe Idealize.ShloMosaic.ValueIdx

variable {F : FTy → Type} [FloatOps F]

/-- Batch `b`'s queries numbered from `2048 * i` on, 2048 of them. -/
def qPart (q : Vec F S2x128x4096 .f32) (b i : ℕ) : Vec F S1x128x2048 .f32 :=
  fun y => q (ix3 (Fin.ofNat 2 b) (y 1) (Fin.ofNat 4096 (i * 2048 + (y 2).val)))

/-- Batch `b`'s keys. -/
def kPart (k : Vec F S2x128x4096 .f32) (b : ℕ) : Vec F S1x128x4096 .f32 :=
  fun y => k (ix3 (Fin.ofNat 2 b) (y 1) (y 2))

/-- The whole result: at each row the block body's value on that row's query block and its batch's keys. -/
def predVal (q k : Vec F S2x128x4096 .f32) : Vec F S2x4096x2 .f32 :=
  fun i => corr (qPart q (i 0).val ((i 1).val / 2048)) (kPart k (i 0).val) (ix3 0 (Fin.ofNat 2048 (i 1).val) (i 2))

variable (V : Dev nD → Valuation τ sig (Elt F))

theorem index_q (t : Fin cfg0.N) : win0_0.index t 0 = t.val / 2 ∧ win0_0.index t 1 = 0 ∧ win0_0.index t 2 = t.val % 2 := by
  revert t; decide +kernel

theorem index_k (t : Fin cfg0.N) : win0_1.index t 0 = t.val / 2 ∧ win0_1.index t 1 = 0 ∧ win0_1.index t 2 = 0 := by
  revert t; decide +kernel

theorem index_p (t : Fin cfg0.N) : win0_2.index t 0 = t.val / 2 ∧ win0_2.index t 1 = t.val % 2 ∧ win0_2.index t 2 = 0 := by
  revert t; decide +kernel

theorem point_lt (t : Fin cfg0.N) : t.val < 4 := t.isLt.trans_le (by decide +kernel)

/-- The query block fetched at a point. -/
theorem blk_q (c : Dev nD) (t : Fin cfg0.N) : blk V c 0 t = qPart (V c main_v1) (t.val / 2) (t.val % 2) := by
  funext y
  have ht := point_lt t
  obtain ⟨e0, e1, e2⟩ := index_q t
  have h0 : (y 0).val < 1 := (y 0).isLt
  have h2 : (y 2).val < 2048 := (y 2).isLt
  refine congrArg (V c main_v1 : S2x128x4096.Idx → Elt F .f32) (?_ : (win0_0.rect t).emb y = _)
  funext a
  apply Fin.ext
  rw [Pipeline.Window.rect_emb_val win0_0]
  match a with
  | ⟨0, _⟩ => show win0_0.index t 0 * 1 + (y 0).val = t.val / 2 % 2; rw [e0]; omega
  | ⟨1, _⟩ => show win0_0.index t 1 * 128 + (y 1).val = (y 1).val; rw [e1]; omega
  | ⟨2, _⟩ => show win0_0.index t 2 * 2048 + (y 2).val = (t.val % 2 * 2048 + (y 2).val) % 4096; rw [e2]; omega

/-- The key block fetched at a point. -/
theorem blk_k (c : Dev nD) (t : Fin cfg0.N) : blk V c 1 t = kPart (V c main_v0) (t.val / 2) := by
  funext y
  have ht := point_lt t
  obtain ⟨e0, e1, e2⟩ := index_k t
  have h0 : (y 0).val < 1 := (y 0).isLt
  refine congrArg (V c main_v0 : S2x128x4096.Idx → Elt F .f32) (?_ : (win0_1.rect t).emb y = _)
  funext a
  apply Fin.ext
  rw [Pipeline.Window.rect_emb_val win0_1]
  match a with
  | ⟨0, _⟩ => show win0_1.index t 0 * 1 + (y 0).val = t.val / 2 % 2; rw [e0]; omega
  | ⟨1, _⟩ => show win0_1.index t 1 * 128 + (y 1).val = (y 1).val; rw [e1]; omega
  | ⟨2, _⟩ => show win0_1.index t 2 * 4096 + (y 2).val = (y 2).val; rw [e2]; omega

/-- The array index of a result block's element. -/
theorem emb_p (t : Fin cfg0.N) (y : S1x2048x2.Idx) :
    (win0_2.rect t).emb y = ix3 (Fin.ofNat 2 (t.val / 2)) (Fin.ofNat 4096 (t.val % 2 * 2048 + (y 1).val)) (y 2) := by
  have ht := point_lt t
  obtain ⟨e0, e1, e2⟩ := index_p t
  have h0 : (y 0).val < 1 := (y 0).isLt
  have h1 : (y 1).val < 2048 := (y 1).isLt
  funext a
  apply Fin.ext
  rw [Pipeline.Window.rect_emb_val win0_2]
  match a with
  | ⟨0, _⟩ => show win0_2.index t 0 * 1 + (y 0).val = t.val / 2 % 2; rw [e0]; omega
  | ⟨1, _⟩ => show win0_2.index t 1 * 2048 + (y 1).val = (t.val % 2 * 2048 + (y 1).val) % 4096; rw [e1]; omega
  | ⟨2, _⟩ => show win0_2.index t 2 * 2 + (y 2).val = (y 2).val; rw [e2]; omega

/-- The pipelined call leaves `predVal` of its two operand arrays in the result's array. -/
theorem predOut_eq (c : Dev nD) : predOut V c = predVal (V c main_v1) (V c main_v0) := by
  refine (dat0 V c).arrAt_eq_of_covers 2 _ (by decide +kernel) fun t _ y => ?_
  show corr (blk V c 0 t) (blk V c 1 t) y = predVal (V c main_v1) (V c main_v0) ((win0_2.rect t).emb y)
  have ht := point_lt t
  have h1 : (y 1).val < 2048 := (y 1).isLt
  rw [blk_q, blk_k, emb_p]
  show _ = corr (qPart (V c main_v1) (t.val / 2 % 2) ((t.val % 2 * 2048 + (y 1).val) % 4096 / 2048)) (kPart (V c main_v0) (t.val / 2 % 2))
    (ix3 0 (Fin.ofNat 2048 ((t.val % 2 * 2048 + (y 1).val) % 4096)) (y 2))
  rw [show t.val / 2 % 2 = t.val / 2 by omega, show (t.val % 2 * 2048 + (y 1).val) % 4096 / 2048 = t.val % 2 by omega]
  congr 1
  rw [eq_ix3 y]
  congr 1
  · exact Subsingleton.elim (α := Fin 1) _ _
  · apply Fin.ext
    show (y 1).val = (t.val % 2 * 2048 + (y 1).val) % 4096 % 2048
    omega

end Cert.Proof

end
-- ==== Proof.Arith.lean ====
/-
  The arithmetic of the claim over the extended reals: norms, cosines, and a quotient of sums scaled alike.
-/
module

public import proofs.«01_k».proof.Proof.KernelValue

@[expose] public section

noncomputable section

namespace Cert.Proof

open Idealize.ShloMosaic

/-! ## The three constants -/

/-- The small number is a positive real. -/
theorem eps_pos : ∃ e : ℝ, 0 < e ∧ eps = e := by
  unfold eps Ideal.ofBits Ideal.ieee
  dsimp only
  rw [if_neg (by decide), if_neg (by decide), if_neg (by decide)]
  refine ⟨_, ?_, rfl⟩
  positivity

theorem scale_val : (Ideal.ofBits .f32 0x3C800000#32 : EReal) = ((1 / 64 : ℝ) : EReal) := by
  unfold Ideal.ofBits Ideal.ieee
  dsimp only
  rw [if_neg (by decide), if_neg (by decide), if_neg (by decide)]
  congr 1
  rw [show (BitVec.extractLsb' 23 8 (0x3C800000#32)).toNat = 121 by decide, show (BitVec.extractLsb' 0 23 (0x3C800000#32)).toNat = 0 by decide]
  norm_num

theorem sixtyFour_val : (Ideal.ofBits .f32 0x42800000#32 : EReal) = ((64 : ℝ) : EReal) := by
  unfold Ideal.ofBits Ideal.ieee
  dsimp only
  rw [if_neg (by decide), if_neg (by decide), if_neg (by decide)]
  congr 1
  rw [show (BitVec.extractLsb' 23 8 (0x42800000#32)).toNat = 133 by decide, show (BitVec.extractLsb' 0 23 (0x42800000#32)).toNat = 0 by decide]
  norm_num

/-- The product with 1/64 is the quotient by 64. -/
theorem scale_eq_div (x : EReal) : x * Ideal.ofBits .f32 0x3C800000#32 = Ideal.div x (Ideal.ofBits .f32 0x42800000#32) := by
  rw [scale_val, sixtyFour_val]
  unfold Ideal.div
  rw [if_neg (by exact_mod_cast (by norm_num : (64 : ℝ) ≠ 0)), ← EReal.coe_inv]
  norm_num

/-! ## Quotients of reals -/

theorem div_real (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

/-- A positive factor common to both sides of a quotient cancels, whatever the divisor. -/
theorem div_scale (x y t : ℝ) (ht : 0 < t) : Ideal.div ((x * t : ℝ) : EReal) ((y * t : ℝ) : EReal) = Ideal.div (x : EReal) (y : EReal) := by
  by_cases hy : y = 0
  · subst hy
    unfold Ideal.div
    rw [zero_mul, EReal.coe_zero, if_pos rfl, if_pos rfl]
    refine if_congr ?_ rfl rfl
    rw [EReal.coe_pos, EReal.coe_pos]
    exact mul_pos_iff_of_pos_right ht
  · rw [div_real _ _ (mul_ne_zero hy ht.ne'), div_real _ _ hy, mul_div_mul_right _ _ ht.ne']

/-! ## Norms and cosines -/

theorem sum_coe {ι : Type} (s : Finset ι) (f : ι → ℝ) : ∑ i ∈ s, (f i : EReal) = ((∑ i ∈ s, f i : ℝ) : EReal) :=
  (map_sum (⟨⟨fun r : ℝ => (r : EReal), EReal.coe_zero⟩, EReal.coe_add⟩ : ℝ →+ EReal) f s).symm

/-- A real vector's norm is a positive real. -/
theorem nrm_real (x : Fin 128 → ℝ) : ∃ t : ℝ, 0 < t ∧ nrm (fun c => (x c : EReal)) = t := by
  obtain ⟨e, he, e'⟩ := eps_pos
  refine ⟨Real.sqrt (∑ c, x c * x c) + e, by positivity, ?_⟩
  unfold nrm
  rw [e', Finset.sum_congr rfl fun c _ => (EReal.coe_mul (x c) (x c)).symm, sum_coe, EReal.coe_add]
  congr 1
  show (if ∑ c, x c * x c < 0 then (⊥ : EReal) else _) = _
  exact if_neg (not_lt.mpr (Finset.sum_nonneg fun c _ => mul_self_nonneg _))

theorem square_nonneg (x : EReal) : 0 ≤ x * x := by
  induction x with
  | bot => simp
  | top => simp
  | coe r => exact_mod_cast mul_self_nonneg r

/-- A vector with an infinite entry has an infinite norm. -/
theorem nrm_top (x : Fin 128 → EReal) (c : Fin 128) (h : x c = ⊤ ∨ x c = ⊥) : nrm x = ⊤ := by
  obtain ⟨e, he, e'⟩ := eps_pos
  have hs : (∑ c, x c * x c : EReal) = ⊤ := by
    refine top_le_iff.mp (le_trans (le_of_eq ?_) (Finset.single_le_sum (fun c _ => square_nonneg (x c)) (Finset.mem_univ c)))
    rcases h with h | h <;> rw [h] <;> simp
  unfold nrm
  rw [hs, e']
  show (⊤ : EReal) + _ = ⊤
  exact EReal.top_add_coe e

/-- Every cosine with such a vector is zero. -/
theorem cosine_of_top (x y : Fin 128 → EReal) (h : nrm x = ⊤) : cosine x y = 0 := by
  unfold cosine
  refine Finset.sum_eq_zero fun c _ => ?_
  rw [h]
  unfold Ideal.div
  rw [if_neg EReal.top_ne_zero, EReal.inv_top, mul_zero, zero_mul]

/-- The plain product of two real vectors. -/
def inner (x y : Fin 128 → ℝ) : ℝ := ∑ c, x c * y c

/-- The cosine of two real vectors: their product over their norms. -/
theorem cosine_real (x y : Fin 128 → ℝ) (s t : ℝ) (hs : 0 < s) (ht : 0 < t) (ex : nrm (fun c => (x c : EReal)) = s)
    (ey : nrm (fun c => (y c : EReal)) = t) : cosine (fun c => (x c : EReal)) (fun c => (y c : EReal)) = ((inner x y / (s * t) : ℝ) : EReal) := by
  unfold cosine inner
  rw [ex, ey, Finset.sum_div, ← sum_coe]
  refine Finset.sum_congr rfl fun c _ => ?_
  rw [div_real _ _ hs.ne', div_real _ _ ht.ne', ← EReal.coe_mul, div_mul_div_comm]

/-! ## The two quotients -/

/-- A sum of kept scores times weights is the sum over the kept positions. -/
theorem sum_kept {N : ℕ} (m : EReal) (s w : Fin N → EReal) (t : Fin 3 → Fin N) (ht : Function.Injective t)
    (h : ∀ n, m ≤ s n ↔ ∃ i, n = t i) : ∑ n, kept m (s n) * w n = ∑ i, s (t i) * w (t i) := by
  have himg : ∑ i, s (t i) * w (t i) = ∑ n ∈ Finset.univ.image t, s n * w n := (Finset.sum_image (f := fun n => s n * w n) (g := t) fun a _ b _ e => ht e).symm
  rw [himg, ← Finset.sum_subset (Finset.subset_univ (Finset.univ.image t))]
  · refine Finset.sum_congr rfl fun n hn => ?_
    obtain ⟨i, _, e⟩ := Finset.mem_image.mp hn
    unfold kept
    rw [if_pos ((h n).mpr ⟨i, e.symm⟩)]
  · intro n _ hn
    unfold kept
    rw [if_neg fun hm => hn (by obtain ⟨i, e⟩ := (h n).mp hm; exact Finset.mem_image.mpr ⟨i, Finset.mem_univ _, e.symm⟩), zero_mul]

/-- Cosines times norms over cosines times norms is products over products: the query's norm cancels. -/
theorem ratio (q : Fin 128 → ℝ) (k : Fin 3 → Fin 128 → ℝ) (p : Fin 3 → ℕ) :
    Ideal.div (∑ i, cosine (fun c => (q c : EReal)) (fun c => (k i c : EReal)) * (nrm (fun c => (k i c : EReal)) * ofNat (p i)))
        (∑ i, cosine (fun c => (q c : EReal)) (fun c => (k i c : EReal)) * nrm (fun c => (k i c : EReal)))
      = Ideal.div (∑ i, ofNat (p i) * ∑ c, (q c : EReal) * (k i c : EReal)) (∑ i, ∑ c, (q c : EReal) * (k i c : EReal)) := by
  obtain ⟨s, hs, es⟩ := nrm_real q
  choose t ht et using fun i => nrm_real (k i)
  have hin : ∀ i, ∑ c, (q c : EReal) * (k i c : EReal) = ((inner q (k i) : ℝ) : EReal) := fun i => by
    unfold inner
    rw [← sum_coe]
    exact Finset.sum_congr rfl fun c _ => (EReal.coe_mul _ _).symm
  have hc : ∀ i, cosine (fun c => (q c : EReal)) (fun c => (k i c : EReal)) * nrm (fun c => (k i c : EReal)) = ((inner q (k i) * s⁻¹ : ℝ) : EReal) := fun i => by
    rw [cosine_real q (k i) s (t i) hs (ht i) es (et i), et i, ← EReal.coe_mul]
    congr 1
    have := (ht i).ne'
    have := hs.ne'
    field_simp
  have hn : ∀ i, cosine (fun c => (q c : EReal)) (fun c => (k i c : EReal)) * (nrm (fun c => (k i c : EReal)) * ofNat (p i))
      = (((p i : ℝ) * inner q (k i) * s⁻¹ : ℝ) : EReal) := fun i => by
    rw [← mul_assoc, hc i]
    unfold ofNat
    rw [← EReal.coe_mul]
    congr 1
    ring
  simp only [hin, hc, hn]
  unfold ofNat
  simp only [← EReal.coe_mul, sum_coe]
  rw [← Finset.sum_mul, ← Finset.sum_mul, div_scale _ _ _ (inv_pos.mpr hs)]

end Cert.Proof

end
-- ==== Proof.PredEq.lean ====
/-
  Under the precondition the pipelined call's value and the reference's prediction agree at every index.
-/
module

public import proofs.«01_k».proof.Proof.PreFacts
public import proofs.«01_k».proof.Proof.RefPred
public import proofs.«01_k».proof.Proof.PredValue
public import proofs.«01_k».proof.Proof.Arith

@[expose] public section

noncomputable section

namespace Cert.Proof

open Cert.KernelIdeal Cert.KernelIdeal.Gen
open Idealize.ShloMosaic Idealize.ShloMosaic.TcCoe Idealize.ShloMosaic.ValueIdx

/-- An argument flattened over its image axes, read at a position. -/
theorem flat_at (x : S2x128x64x64.Idx → EReal) (b : Fin 2) (c : Fin 128) (n : Fin 4096) :
    shapeCast S2x128x4096 x shapeCasts_S2x128x64x64_S2x128x4096 (ix3 b c n) = col x b n c := by
  refine shapeCast_apply x _ _ _ ?_
  rw [Shape.rowMajor_val_three, Shape.rowMajor_val_four]
  show ((b.val * 128 + c.val) * 64 + n.val / 64) * 64 + n.val % 64 = (b.val * 128 + c.val) * 4096 + n.val
  omega

/-- A query of the block that holds it. -/
theorem qCol_flat (x : S2x128x64x64.Idx → EReal) (b : Fin 2) (n : Fin 4096) :
    qCol (qPart (F := Ideal) (shapeCast S2x128x4096 x shapeCasts_S2x128x64x64_S2x128x4096) b.val (n.val / 2048)) (Fin.ofNat 2048 n.val) = col x b n := by
  funext c
  refine Eq.trans (?_ : _ = shapeCast S2x128x4096 x shapeCasts_S2x128x64x64_S2x128x4096 (ix3 b c n)) (flat_at x b c n)
  refine congrArg (shapeCast S2x128x4096 x shapeCasts_S2x128x64x64_S2x128x4096) (?_ : ix3 _ _ _ = _)
  have hb := b.isLt
  have hn := n.isLt
  congr 1
  · apply Fin.ext
    show b.val % 2 = b.val
    omega
  · apply Fin.ext
    show (n.val / 2048 * 2048 + n.val % 2048) % 4096 = n.val
    omega

/-- A key of its batch's block. -/
theorem kCol_flat (x : S2x128x64x64.Idx → EReal) (b : Fin 2) (m : Fin 4096) :
    kCol (kPart (F := Ideal) (shapeCast S2x128x4096 x shapeCasts_S2x128x64x64_S2x128x4096) b.val) m = col x b m := by
  funext c
  refine Eq.trans (?_ : _ = shapeCast S2x128x4096 x shapeCasts_S2x128x64x64_S2x128x4096 (ix3 b c m)) (flat_at x b c m)
  refine congrArg (shapeCast S2x128x4096 x shapeCasts_S2x128x64x64_S2x128x4096) (?_ : ix3 _ _ _ = _)
  have hb := b.isLt
  congr 1
  apply Fin.ext
  show b.val % 2 = b.val
  omega

variable (x0 x1 : S2x128x64x64.Idx → EReal)

theorem pick_injective (b : Fin 2) (n : Fin 4096) : Function.Injective (pick x0 x1 b n) := by
  intro i j e
  unfold pick ranked at e
  exact Fin.ext (Fin.mk.inj (order_injective _ e))

theorem pick_antitone (b : Fin 2) (n : Fin 4096) (i j : Fin 3) (h : i ≤ j) :
    cosine (col x0 b n) (col x1 b (pick x0 x1 b n j)) ≤ cosine (col x0 b n) (col x1 b (pick x0 x1 b n i)) := by
  unfold pick ranked
  exact order_antitone (fun m => cosine (col x0 b n) (col x1 b m)) _ _ (Fin.mk_le_mk.mpr h)

/-- A threshold that is the third greatest cosine of a query keeps exactly its three nearest keys. -/
theorem kept_iff (b : Fin 2) (n : Fin 4096) (a₁ a₂ a₃ : EReal)
    (h3 : IsTop3 (fun v => ∑ m : Fin 4096, atLeast v (cosine (col x0 b n) (col x1 b m))) a₁ a₂ a₃)
    (hlt : cosine (col x0 b n) (col x1 b (ranked x0 x1 b n 3)) < cosine (col x0 b n) (col x1 b (ranked x0 x1 b n 2))) (m : Fin 4096) :
    a₃ ≤ cosine (col x0 b n) (col x1 b m) ↔ ∃ i, m = pick x0 x1 b n i := by
  have anti := order_antitone fun m => cosine (col x0 b n) (col x1 b m)
  refine h3.ge_iff (pick x0 x1 b n) (pick_injective x0 x1 b n) (pick_antitone x0 x1 b n 0 1 (by decide)) (pick_antitone x0 x1 b n 1 2 (by decide)) (lt_of_le_of_lt bot_le hlt) (fun k hk => ?_) m
  obtain ⟨j, rfl⟩ := order_surjective (fun m => cosine (col x0 b n) (col x1 b m)) k
  have hj : (3 : Fin 4096) ≤ j := by
    by_contra hc
    have hc' : j.val < 3 := not_le.mp hc
    exact hk ⟨j.val, hc'⟩ rfl
  exact lt_of_le_of_lt (anti _ _ hj) hlt

/-- A query whose cosines are not all equal is finite. -/
theorem query_real (q k k' : Fin 128 → EReal) (h : cosine q k < cosine q k') (c : Fin 128) : q c ≠ ⊤ ∧ q c ≠ ⊥ := by
  constructor <;> intro e
  · rw [cosine_of_top q k (nrm_top q c (.inl e)), cosine_of_top q k' (nrm_top q c (.inl e))] at h
    exact lt_irrefl _ h
  · rw [cosine_of_top q k (nrm_top q c (.inr e)), cosine_of_top q k' (nrm_top q c (.inr e))] at h
    exact lt_irrefl _ h

/-- A finite vector is one of reals. -/
theorem real_of_finite (x : Fin 128 → EReal) (h : ∀ c, x c ≠ ⊤ ∧ x c ≠ ⊥) : ∃ r : Fin 128 → ℝ, x = fun c => (r c : EReal) :=
  ⟨fun c => (x c).toReal, funext fun c => (EReal.coe_toReal (h c).1 (h c).2).symm⟩

/-- The weight of a key for its coordinate along an axis. -/
theorem weight_castSucc (nk : FVec Ideal S1x4096 .f32) (d : Fin 2) (m : Fin 4096) :
    weight nk d.castSucc m = nk (ix2 0 m) * ofNat (coord d m) := by
  match d with
  | 0 => rfl
  | 1 => rfl

variable (x2 x3 : FVec Ideal S2x64x64 .f32) (x4 : IVec S2x64x64 32) (x5 : FVec Ideal S2x50x120x2 .f32)

/-- The two predictions agree. -/
theorem prediction_eq (h : Cert.Pre_separated.fn (F := Ideal) x0 x1 x2 x3 x4 x5 = fun _ => 1#1) (b : Fin 2) (n : Fin 4096) (d : Fin 2) :
    predVal (F := Ideal) (shapeCast S2x128x4096 x0 shapeCasts_S2x128x64x64_S2x128x4096) (shapeCast S2x128x4096 x1 shapeCasts_S2x128x64x64_S2x128x4096) (ix3 b n d)
      = Cert.ReferenceIdeal.Read.val_main_v38 (F := Ideal) x0 x1 (ix3 b n d) := by
  have hlt := third_gt_fourth h b n
  obtain ⟨q, eq⟩ := real_of_finite (col x0 b n) (query_real _ _ _ hlt)
  choose k ek using fun m => real_of_finite (col x1 b m) fun c => finite_keys h _
  refine Eq.trans ?_ (prediction_at x0 x1 b n d).symm
  refine (corr_apply _ _ (Fin.ofNat 2048 n.val) d).trans ?_
  generalize eQ : qPart (F := Ideal) (shapeCast S2x128x4096 x0 shapeCasts_S2x128x64x64_S2x128x4096) b.val (n.val / 2048) = Q
  generalize eK : kPart (F := Ideal) (shapeCast S2x128x4096 x1 shapeCasts_S2x128x64x64_S2x128x4096) b.val = K
  have hQ : qCol Q (Fin.ofNat 2048 n.val) = col x0 b n := eQ ▸ qCol_flat x0 b n
  have hK : ∀ m, kCol K m = col x1 b m := fun m => eK ▸ kCol_flat x1 b m
  have hs : ∀ m, scores Q K (ix2 (Fin.ofNat 2048 n.val) m) = cosine (col x0 b n) (col x1 b m) := fun m => by
    rw [scores_apply, hQ, hK]
  obtain ⟨a₁, a₂, h3⟩ := third_holds (scores Q K) (Fin.ofNat 2048 n.val)
  simp only [hs] at h3
  have hk := kept_iff x0 x1 b n a₁ a₂ _ h3 hlt
  have ht : ∀ e, total (norms K) (scores Q K) (third (scores Q K)) (Fin.ofNat 2048 n.val) e
      = ∑ i, cosine (col x0 b n) (col x1 b (pick x0 x1 b n i)) * weight (norms K) e (pick x0 x1 b n i) := fun e => by
    unfold total
    simp only [hs]
    exact sum_kept _ (fun m => cosine (col x0 b n) (col x1 b m)) (weight (norms K) e) _ (pick_injective x0 x1 b n) hk
  have hn : ∀ m, norms K (ix2 0 m) = nrm (col x1 b m) := fun m => by rw [norms_apply, hK]
  rw [ht, ht]
  simp only [weight_castSucc, show ∀ m, weight (norms K) 2 m = norms K (ix2 0 m) from fun _ => rfl, hn, ek, eq]
  exact ratio q (fun i => k (pick x0 x1 b n i)) (fun i => coord d (pick x0 x1 b n i))

end Cert.Proof

end
-- ==== Proof.RefGather.lean ====
/-
  The reference's second result at an index: the prediction of the pixel a requested point rounds to, over 64.
-/
module

public import proofs.«01_k».proof.Proof.RefTake
public import proofs.«01_k».proof.Proof.HostFacts

@[expose] public section

noncomputable section

namespace Cert.Proof

open Cert.ReferenceIdeal Cert.ReferenceIdeal.Gen Cert.ReferenceIdeal.Read
open Idealize.ShloMosaic Idealize.ShloMosaic.TcCoe Idealize.ShloMosaic.ValueIdx

variable (x0 x1 : S2x128x64x64.Idx → EReal) (x5 : S2x50x120x2.Idx → Ideal .f32)

/-- Both programs round the requested points to the same grid positions. -/
theorem grid_eq : val_main_v44 (F := Ideal) x5 = gridIdx (F := Ideal) x5 := rfl

/-- Wrapping a word below `2 ^ 31` changes nothing. -/
theorem wrap_self (w v : BitVec 32) (h : w.toNat ≤ 63) : Scalar.select (IntOp.cmpi .slt w 0#32) v w = w := by
  have e : w = BitVec.ofNat 32 w.toNat := BitVec.eq_of_toNat_eq (by rw [BitVec.toNat_ofNat]; exact (Nat.mod_eq_of_lt w.isLt).symm)
  generalize w.toNat = t at e h
  subst e
  exact wrap_word _ (by omega) _

/-- The three words of a requested point's position: its batch, its row and its column. -/
theorem batch_word (b : Fin 2) (n : Fin 50) (k : Fin 120) : val_main_v70 (F := Ideal) x5 (ix4 b n k 0) = BitVec.ofNat 32 b.val := by
  unfold val_main_v70
  refine (concatenate_apply_piece (t := S2x50x120x3) 3 _ _ (ix4 b n k 0) 0 (by show 0 < 3; decide) S2x50x120x1 (val_main_v67 (F := Ideal)) rfl rfl 0 rfl (ix4 b n k 0)
    (fun a ha => ?_) rfl).trans ?_
  · match a with
    | ⟨0, _⟩ => rfl
    | ⟨1, _⟩ => rfl
    | ⟨2, _⟩ => rfl
    | ⟨3, _⟩ => exact absurd rfl ha
  · rw [val_main_v67_apply, val_main_v66_apply]
    have hb := b.isLt
    exact wrap_word b.val (by omega) _

theorem row_word (b : Fin 2) (n : Fin 50) (k : Fin 120) : val_main_v70 (F := Ideal) x5 (ix4 b n k 1) = gridIdx (F := Ideal) x5 (ix4 b n k 0) := by
  unfold val_main_v70
  refine (concatenate_apply_piece (t := S2x50x120x3) 3 _ _ (ix4 b n k 1) 1 (by show 1 < 3; decide) S2x50x120x1 (val_main_v68 (F := Ideal) x5) rfl rfl 1 rfl (ix4 b n k 0)
    (fun a ha => ?_) rfl).trans ?_
  · match a with
    | ⟨0, _⟩ => rfl
    | ⟨1, _⟩ => rfl
    | ⟨2, _⟩ => rfl
    | ⟨3, _⟩ => exact absurd rfl ha
  · rw [val_main_v68_apply, show idx_main_v68 (ix4 b n k 0) = ix3 b n k by
      funext a
      match a with
      | ⟨0, _⟩ => rfl
      | ⟨1, _⟩ => rfl
      | ⟨2, _⟩ => rfl]
    have e : val_main_v48 (F := Ideal) x5 (ix3 b n k) = gridIdx (F := Ideal) x5 (ix4 b n k 0) := by
      rw [val_main_v48_apply, val_main_v47_apply, ← grid_eq]
      refine congrArg (val_main_v44 (F := Ideal) x5) (funext fun a => Fin.ext ?_)
      have hb := b.isLt
      have hn := n.isLt
      have hk := k.isLt
      match a with
      | ⟨0, _⟩ => show ((b.val * 50 + n.val) * 120 + k.val) / 6000 = b.val; omega
      | ⟨1, _⟩ => show ((b.val * 50 + n.val) * 120 + k.val) / 120 % 50 = n.val; omega
      | ⟨2, _⟩ => show ((b.val * 50 + n.val) * 120 + k.val) / 1 % 120 = k.val; omega
      | ⟨3, _⟩ => rfl
    rw [← e]
    exact wrap_self _ _ (e ▸ gridIdx_le (F := Ideal) x5 _)

theorem column_word (b : Fin 2) (n : Fin 50) (k : Fin 120) : val_main_v70 (F := Ideal) x5 (ix4 b n k 2) = gridIdx (F := Ideal) x5 (ix4 b n k 1) := by
  unfold val_main_v70
  refine (concatenate_apply_piece (t := S2x50x120x3) 3 _ _ (ix4 b n k 2) 2 (by show 2 < 3; decide) S2x50x120x1 (val_main_v69 (F := Ideal) x5) rfl rfl 2 rfl (ix4 b n k 0)
    (fun a ha => ?_) rfl).trans ?_
  · match a with
    | ⟨0, _⟩ => rfl
    | ⟨1, _⟩ => rfl
    | ⟨2, _⟩ => rfl
    | ⟨3, _⟩ => exact absurd rfl ha
  · rw [val_main_v69_apply, show idx_main_v69 (ix4 b n k 0) = ix3 b n k by
      funext a
      match a with
      | ⟨0, _⟩ => rfl
      | ⟨1, _⟩ => rfl
      | ⟨2, _⟩ => rfl]
    have e : val_main_v50 (F := Ideal) x5 (ix3 b n k) = gridIdx (F := Ideal) x5 (ix4 b n k 1) := by
      rw [val_main_v50_apply, val_main_v49_apply, ← grid_eq]
      refine congrArg (val_main_v44 (F := Ideal) x5) (funext fun a => Fin.ext ?_)
      have hb := b.isLt
      have hn := n.isLt
      have hk := k.isLt
      match a with
      | ⟨0, _⟩ => show ((b.val * 50 + n.val) * 120 + k.val) / 6000 = b.val; omega
      | ⟨1, _⟩ => show ((b.val * 50 + n.val) * 120 + k.val) / 120 % 50 = n.val; omega
      | ⟨2, _⟩ => show ((b.val * 50 + n.val) * 120 + k.val) / 1 % 120 = k.val; omega
      | ⟨3, _⟩ => rfl
    rw [← e]
    exact wrap_self _ _ (e ▸ gridIdx_le (F := Ideal) x5 _)

theorem toInt_small (w : BitVec 32) (h : w.toNat ≤ 63) : min w.toInt.toNat 63 = w.toNat := by
  rw [BitVec.toInt_eq_toNat_of_lt (by omega), Int.toNat_natCast]
  omega

/-- A pixel's number from its row and its column. -/
def pixel (g h : ℕ) (hg : g ≤ 63) (hh : h ≤ 63) : Fin 4096 := ⟨g * 64 + h, by omega⟩

/-- The reference's first result, at a pixel given by its row and its column. -/
theorem first_at (b : Fin 2) (g h : Fin 64) (d : Fin 2) :
    val_main_v39 (F := Ideal) x0 x1 (ix4 b g h d) = val_main_v38 (F := Ideal) x0 x1 (ix3 b (pixel g.val h.val (by omega) (by omega)) d) := by
  rw [val_main_v39_apply]
  refine congrArg (val_main_v38 (F := Ideal) x0 x1) (funext fun a => Fin.ext ?_)
  have hb := b.isLt
  have hg := g.isLt
  have hh := h.isLt
  have hd := d.isLt
  match a with
  | ⟨0, _⟩ => show (((b.val * 64 + g.val) * 64 + h.val) * 2 + d.val) / 8192 = b.val; omega
  | ⟨1, _⟩ => show (((b.val * 64 + g.val) * 64 + h.val) * 2 + d.val) / 2 % 4096 = g.val * 64 + h.val; omega
  | ⟨2, _⟩ => show (((b.val * 64 + g.val) * 64 + h.val) * 2 + d.val) % 2 = d.val; omega

/-- The reference's second result. -/
theorem second_at (b : Fin 2) (n : Fin 50) (k : Fin 120) (d : Fin 2) :
    (val_main_v73 (F := Ideal) x0 x1 x5 (ix4 b n k d) : EReal)
      = Ideal.div (val_main_v38 (F := Ideal) x0 x1 (ix3 b (pixel _ _ (gridIdx_le (F := Ideal) x5 (ix4 b n k 0)) (gridIdx_le (F := Ideal) x5 (ix4 b n k 1))) d))
          (Ideal.ofBits .f32 0x42800000#32) := by
  rw [val_main_v73_apply]
  refine (congrArg (fun x : EReal => Ideal.div x (Ideal.ofBits .f32 0x42800000#32)) (?_ : (val_main_v71 (F := Ideal) x0 x1 x5 (ix4 b n k d) : EReal) = _) : _)
  unfold val_main_v71
  refine (takePixel_at _ _ b n k d).trans ?_
  refine Eq.trans ?_ (first_at x0 x1 b ⟨(gridIdx (F := Ideal) x5 (ix4 b n k 0)).toNat, by have := gridIdx_le (F := Ideal) x5 (ix4 b n k 0); omega⟩
    ⟨(gridIdx (F := Ideal) x5 (ix4 b n k 1)).toNat, by have := gridIdx_le (F := Ideal) x5 (ix4 b n k 1); omega⟩ d)
  refine congrArg (val_main_v39 (F := Ideal) x0 x1) (funext fun a => Fin.ext ?_)
  match a with
  | ⟨0, _⟩ =>
    show min (val_main_v70 (F := Ideal) x5 (ix4 b n k 0)).toInt.toNat 1 = b.val
    have hb := b.isLt
    rw [batch_word, toInt_word _ (by omega), Int.toNat_natCast]
    omega
  | ⟨1, _⟩ =>
    show min (val_main_v70 (F := Ideal) x5 (ix4 b n k 1)).toInt.toNat 63 = _
    rw [row_word, toInt_small _ (gridIdx_le (F := Ideal) x5 _)]
  | ⟨2, _⟩ =>
    show min (val_main_v70 (F := Ideal) x5 (ix4 b n k 2)).toInt.toNat 63 = _
    rw [column_word, toInt_small _ (gridIdx_le (F := Ideal) x5 _)]
  | ⟨3, _⟩ => rfl

end Cert.Proof

end
-- ==== Proof.GatherEq.lean ====
/-
  The kernel's two results at an index, from the pipelined call's array: the array itself, and the words of it
  that the requested points name, over 64.
-/
module

public import proofs.«01_k».proof.Proof.Main
public import proofs.«01_k».proof.Proof.RefGather
public import proofs.«01_k».proof.Proof.Arith
public import Idealize.ShloMosaic.Lib.KernelVsHost

@[expose] public section

noncomputable section

namespace Cert.Proof

open Cert.KernelIdeal Cert.KernelIdeal.Gen
open Idealize.ShloMosaic Idealize.ShloMosaic.TcCoe Idealize.ShloMosaic.ValueIdx

/-- A requested point's word in the padded list. -/
theorem indices_at (x : S2x50x120x2.Idx → Ideal .f32) (b : Fin 2) (n : Fin 50) (k : Fin 120) (p : Fin 12288)
    (hp : p.val = (b.val * 50 + n.val) * 120 + k.val) : indices (F := Ideal) x (ix1 p) = flatIdx (gridIdx (F := Ideal) x) (ix3 b n k) := by
  have hb := b.isLt
  have hn := n.isLt
  have hk := k.isLt
  unfold indices
  refine (pad_apply_of_inside ![0] ![288] ![0] _ _ pads_S12000_S12288_02880 h_S_ (ix1 p) (ix1 ⟨p.val, by omega⟩) (fun a => ?_)).trans
    (shapeCast_at _ _ _ (ix3 b n k) ?_)
  · match a with
    | ⟨0, _⟩ => show p.val = 0 + p.val * (0 + 1); omega
  · rw [Shape.rowMajor_val_three, Shape.rowMajor_val_one]
    exact hp.symm

/-- The table at a pixel's coordinate. -/
theorem table_at (P : S2x4096x2.Idx → Ideal .f32) (b : Fin 2) (g h : ℕ) (hg : g ≤ 63) (hh : h ≤ 63) (d : Fin 2) :
    word (F := Ideal) (shapeCast S16384 P shapeCasts_S2x4096x2_S16384) ((b.val * 4096 + g * 64 + h) * 2 + d.val) = P (ix3 b (pixel g h hg hh) d) := by
  have hb := b.isLt
  have hd := d.isLt
  refine shapeCast_at _ _ _ _ ?_
  rw [Shape.rowMajor_val_three, Shape.rowMajor_val_one]
  show (b.val * 4096 + (g * 64 + h)) * 2 + d.val = ((b.val * 4096 + g * 64 + h) * 2 + d.val) % 16384
  omega

/-- The gathered words with the padding dropped, at an index. -/
theorem gathered_at (P : S2x4096x2.Idx → Ideal .f32) (x : S2x50x120x2.Idx → Ideal .f32) (b : Fin 2) (n : Fin 50) (k : Fin 120) (d : Fin 2) :
    (shapeCast S2x50x120x2 (extractStridedSlice S24000 ![0]
        (gathered (F := Ideal) (shapeCast S16384 P shapeCasts_S2x4096x2_S16384) (indices (F := Ideal) x)) slices_S24576_S24000_0)
      shapeCasts_S24000_S2x50x120x2 (ix4 b n k d) : EReal)
    = Ideal.div (P (ix3 b (pixel _ _ (gridIdx_le (F := Ideal) x (ix4 b n k 0)) (gridIdx_le (F := Ideal) x (ix4 b n k 1))) d))
        (Ideal.ofBits .f32 0x42800000#32) := by
  have hb := b.isLt
  have hn := n.isLt
  have hk := k.isLt
  have hd := d.isLt
  have hj : ((b.val * 50 + n.val) * 120 + k.val) * 2 + d.val < 24000 := by omega
  refine (shapeCast_at _ _ _ (ix1 ⟨((b.val * 50 + n.val) * 120 + k.val) * 2 + d.val, hj⟩) ?_).trans ?_
  · rw [Shape.rowMajor_val_one, Shape.rowMajor_val_four]
    rfl
  refine (extractStridedSlice_apply _ _ _ _ (ix1 ⟨((b.val * 50 + n.val) * 120 + k.val) * 2 + d.val, by omega⟩) fun a => ?_).trans ?_
  · match a with
    | ⟨0, _⟩ => exact (Nat.zero_add _).symm
  unfold gathered
  have e : idxWord (n := 12288) (indices (F := Ideal) x) ((((b.val * 50 + n.val) * 120 + k.val) * 2 + d.val) / 2) + (((b.val * 50 + n.val) * 120 + k.val) * 2 + d.val) % 2
      = (b.val * 4096 + (gridIdx (F := Ideal) x (ix4 b n k 0)).toNat * 64 + (gridIdx (F := Ideal) x (ix4 b n k 1)).toNat) * 2 + d.val := by
    rw [show (((b.val * 50 + n.val) * 120 + k.val) * 2 + d.val) / 2 = (b.val * 50 + n.val) * 120 + k.val by omega,
      show (((b.val * 50 + n.val) * 120 + k.val) * 2 + d.val) % 2 = d.val by omega]
    unfold idxWord
    rw [indices_at x b n k _ (show ((b.val * 50 + n.val) * 120 + k.val) % 12288 = _ by omega), flatIdx_toNat _ (gridIdx_le (F := Ideal) x)]
  refine (congrArg (fun t => scale (F := Ideal) (word (F := Ideal) (shapeCast S16384 P shapeCasts_S2x4096x2_S16384) t)) e).trans ?_
  refine (congrArg (scale (F := Ideal)) (table_at P b _ _ (gridIdx_le (F := Ideal) x _) (gridIdx_le (F := Ideal) x _) d)).trans ?_
  exact scale_eq_div _

variable (m : (ℓ : Loc nD τ sig) → Buf (Elt Ideal) ℓ) (c : Dev nD)

/-- The contents before the pipelined call, at its operands. -/
theorem val1_keys : val1 (F := Ideal) m c main_v0 = shapeCast S2x128x4096 (m ((c.tc : Thread nD τ).loc main_arg1)) shapeCasts_S2x128x64x64_S2x128x4096 := by
  unfold val1; rw [after0_v0]; rfl
theorem val1_queries : val1 (F := Ideal) m c main_v1 = shapeCast S2x128x4096 (m ((c.tc : Thread nD τ).loc main_arg0)) shapeCasts_S2x128x64x64_S2x128x4096 := by
  unfold val1; rw [after0_v1]; rfl

/-- The kernel's first result: the pipelined call's array, reshaped. -/
theorem first_eq : val5 (F := Ideal) m c main_v3 = shapeCast S2x64x64x2 (predOut (val1 m) c) shapeCasts_S2x4096x2_S2x64x64x2 := by
  unfold val5; rw [after2_keep _ main_v3 (by decide), val4_of_ne _ _ _ (fun e => absurd (Proc.devRef_injective _ e) (by decide))]
  unfold val3; rw [after1_v3, Vreg_self]

/-- The kernel's second result: the gathered words, the padding dropped. -/
theorem second_eq : val5 (F := Ideal) m c main_v29
    = shapeCast S2x50x120x2 (extractStridedSlice S24000 ![0]
        (gathered (F := Ideal) (shapeCast S16384 (predOut (val1 m) c) shapeCasts_S2x4096x2_S16384) (indices (F := Ideal) (m ((c.tc : Thread nD τ).loc main_arg5))))
        slices_S24576_S24000_0) shapeCasts_S24000_S2x50x120x2 := by
  unfold val5; rw [after2_v29, val4_self]
  unfold val3; rw [after1_v26, after1_v25, Vreg_self, Vreg_of_ne _ _ main_arg5 (by decide)]
  unfold val1; rw [after0_keep _ main_arg5 (by decide)]; rfl

end Cert.Proof

end
-- ==== Proof.Algebraic.lean ====
/-
  The kernel and the reference, run on the same arguments under the precondition, leave the same two results.
-/
module

public import proofs.«01_k».proof.Proof.Frames
public import proofs.«01_k».proof.Proof.PredEq
public import proofs.«01_k».proof.Proof.GatherEq

@[expose] public section

noncomputable section

namespace Cert.Proof

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- Under the precondition the pipelined call's array is the reference's prediction. -/
theorem array_eq (h : Cert.Pre_KernelIdeal_separated m) :
    (predOut (F := Ideal) (val1 m) c : S2x4096x2.Idx → EReal)
      = Cert.ReferenceIdeal.Read.val_main_v38 (F := Ideal) (m ((c.tc : Thread nD τ).loc main_arg0)) (m ((c.tc : Thread nD τ).loc main_arg1)) := by
  rw [predOut_eq, val1_keys, val1_queries]
  funext i
  rw [eq_ix3 i]
  exact prediction_eq _ _ _ _ _ _ (h c) (i 0) (i 1) (i 2)

/-- The first results agree. -/
theorem first_results (h : Cert.Pre_KernelIdeal_separated m) :
    val5 (F := Ideal) m c main_v3
      = Cert.ReferenceIdeal.Read.val_main_v39 (F := Ideal) (m ((c.tc : Thread nD τ).loc main_arg0)) (m ((c.tc : Thread nD τ).loc main_arg1)) := by
  refine (first_eq m c).trans ?_
  exact congrArg (fun P : S2x4096x2.Idx → Ideal .f32 => shapeCast S2x64x64x2 P shapeCasts_S2x4096x2_S2x64x64x2) (array_eq m c h)

/-- The second results agree. -/
theorem second_results (h : Cert.Pre_KernelIdeal_separated m) :
    val5 (F := Ideal) m c main_v29
      = Cert.ReferenceIdeal.Read.val_main_v73 (F := Ideal) (m ((c.tc : Thread nD τ).loc main_arg0)) (m ((c.tc : Thread nD τ).loc main_arg1)) (m ((c.tc : Thread nD τ).loc main_arg5)) := by
  refine (second_eq m c).trans (funext fun i : S2x50x120x2.Idx => ?_)
  rw [eq_ix4 i]
  refine (gathered_at _ (m ((c.tc : Thread nD τ).loc main_arg5)) (i 0) (i 1) (i 2) (i 3)).trans ?_
  refine Eq.trans ?_ (second_at (m ((c.tc : Thread nD τ).loc main_arg0)) (m ((c.tc : Thread nD τ).loc main_arg1)) (m ((c.tc : Thread nD τ).loc main_arg5)) (i 0) (i 1) (i 2) (i 3)).symm
  exact congrArg (fun x : EReal => Ideal.div x (Ideal.ofBits .f32 0x42800000#32)) (congrFun (array_eq m c h) _)

/-- `Cert.algebraic_KernelIdeal_ReferenceIdeal_pre_separated` (Defs.lean). -/
theorem algebraic_kernel : Cert.algebraic_KernelIdeal_ReferenceIdeal_pre_separated := by
  intro m g m' g' h hargs
  refine ⟨fun c => val5 m c main_v3, fun c => val5 m c main_v29, ?_, ?_⟩
  · exact (θ_run Cert.KernelIdeal.defs _ _).mono (fun r hr c => leaves m r hr c) (run_main (F := Ideal) m g)
  refine (θ_run Cert.ReferenceIdeal.defs _ _).mono (fun r hr c => ?_) (Cert.ReferenceIdeal.Value.run (F := Ideal) m' g')
  obtain ⟨h0, h1, h2, h3, h4, h5⟩ := hargs c
  obtain ⟨r0, r1, ra⟩ := hr c
  refine ⟨r0.trans ?_, r1.trans ?_, ra⟩
  · rw [Cert.ReferenceIdeal.Read.val_main_v39_eq, h0, h1]
    exact (first_results m c h).symm
  · rw [Cert.ReferenceIdeal.Read.val_main_v73_eq, h0, h1, h5]
    exact (second_results m c h).symm

/-- `Cert.quiescent_KernelIdeal_pre_separated` (Defs.lean): the run needs no precondition. -/
theorem frame_kernelIdeal_separated : Cert.quiescent_KernelIdeal_pre_separated := fun m ρ _ => frame_kernelIdeal m ρ trivial

/-- `Cert.quiescent_ReferenceIdeal_pre_separated` (Defs.lean): the run needs no precondition. -/
theorem frame_referenceIdeal_separated : Cert.quiescent_ReferenceIdeal_pre_separated := fun m ρ _ => frame_referenceIdeal m ρ trivial

end Cert.Proof

end
-- ==== Proof.lean ====
module

public import proofs.«01_k».proof.Defs
public import proofs.«01_k».proof.Proof.Algebraic

@[expose] public section

noncomputable section

namespace Cert.Proof

open Idealize.ShloMosaic Idealize.SL.Sem

/-- Nothing was rewritten between the two programs. -/
theorem preserves_kernel : Cert.preserves_Kernel_KernelIdeal := trivial

/-- Every claim. -/
theorem claim : Cert.Claim :=
  ⟨Cert.Kernel.Gen.facts, Cert.KernelIdeal.Gen.facts, Cert.ReferenceIdeal.Gen.facts, sepFacts,
    frame_kernel, frame_kernelIdeal, frame_kernelIdeal_separated, frame_referenceIdeal, frame_referenceIdeal_separated,
    preserves_kernel, algebraic_kernel⟩

end Cert.Proof

end
